-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128x100000 : Shape := ⟨2, ![128, 100000]⟩
abbrev S8x100000 : Shape := ⟨2, ![8, 100000]⟩
abbrev S8x4096 : Shape := ⟨2, ![8, 4096]⟩
abbrev S8x1696 : Shape := ⟨2, ![8, 1696]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_0 : BitVec 32 := 0#32
  let c24_i32 : BitVec 32 := 24#32
  let v8 : BitVec 32 := Scalar.addi c0_i32_0 c24_i32
  let c1_i32 : BitVec 32 := 1#32
  ⟨c0_i32_0, v8, c1_i32⟩
def k0_off1 (k0_t1 : Fin k0_t1_loop.trips) : Fin 2 → Nat :=
  let c0_113 : Index := 0#32
  let c0_i32_0 : BitVec 32 := 0#32
  let c1_i32 : BitVec 32 := 1#32
  let arg3 : BitVec 32 := Scf.iv c0_i32_0 c1_i32 k0_t1
  let c4096_i32 : BitVec 32 := 4096#32
  let v226 : BitVec 32 := Scalar.muli arg3 c4096_i32
  let v407 : Index := Scalar.indexCast v226
  ![0, v407.toNat]
@[reducible] def k0_t2_loop : Scf.Loop 32 :=
  let c0_i32_47 : BitVec 32 := 0#32
  let c24_i32_48 : BitVec 32 := 24#32
  let v217 : BitVec 32 := Scalar.addi c0_i32_47 c24_i32_48
  let c1_i32_49 : BitVec 32 := 1#32
  ⟨c0_i32_47, v217, c1_i32_49⟩
def k0_off2 (k0_t2 : Fin k0_t2_loop.trips) : Fin 2 → Nat :=
  let c0_58 : Index := 0#32
  let c0_i32_47 : BitVec 32 := 0#32
  let c1_i32_49 : BitVec 32 := 1#32
  let arg3 : BitVec 32 := Scf.iv c0_i32_47 c1_i32_49 k0_t2
  let c4096_i32 : BitVec 32 := 4096#32
  let v226 : BitVec 32 := Scalar.muli arg3 c4096_i32
  let v234 : Index := Scalar.indexCast v226
  ![0, v234.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 316
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128x1, .i32⟩
  | 53 => ⟨S1x100000, .i32⟩
  | 54 => ⟨S128x100000, .i32⟩
  | 55 => ⟨S128x100000, .i32⟩
  | 56 => ⟨S128x100000, .i1⟩
  | 57 => ⟨S128x100000, .f32⟩
  | 58 => ⟨S128x100000, .f32⟩
  | 59 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v30 : Ref sig .tc := ⟨.hbm, 307, rfl⟩
abbrev main_call2_v0 : Ref sig .tc := ⟨.hbm, 308, rfl⟩
abbrev main_call2_v1 : Ref sig .tc := ⟨.hbm, 309, rfl⟩
abbrev main_call2_v2 : Ref sig .tc := ⟨.hbm, 310, rfl⟩
abbrev main_call2_v3 : Ref sig .tc := ⟨.hbm, 311, rfl⟩
abbrev main_call2_v4 : Ref sig .tc := ⟨.hbm, 312, rfl⟩
abbrev main_v31 : Ref sig .tc := ⟨.hbm, 313, rfl⟩
abbrev main_v32 : Ref sig .tc := ⟨.hbm, 314, rfl⟩
abbrev main_v33 : Ref sig .tc := ⟨.hbm, 315, rfl⟩

abbrev nD : Nat := 1
abbrev τ : Topo := Topo.v7x

variable {F : FTy → Type} [FloatOps F]
-- ==== Proof.Line.lean ====
/-
  A straight line of host operations in which every operation writes one buffer of its own, later in the buffer table
  than every buffer it reads. The contents after such a line satisfy all of the operations' equations at once
  (`fixed_of_good`): running any one of its operations again changes nothing. So each value of the reference can be
  read as an equation between final contents, and no composed term of the whole program is ever written down.
-/
module

public import Idealize.ShloMosaic.Lib.StableHlo.Run

@[expose] public section

namespace Cert.Line

open Idealize.ShloMosaic Idealize.ShloMosaic.StableHlo Idealize.SL.Sem

variable {nD : Nat} {τ : Topo} {sig : RefSig} {Val : EltTy → Type} {Λ : Labels}

/-- A buffer's place in its table. -/
def key (r : Ref sig .tc) : Nat := r.idx.val

/-- `op` writes exactly one buffer, at place `n`, touches TensorCore buffers only, and what it writes depends on buffers
    at earlier places only. -/
structure Step (n : Nat) (op : HloOp τ sig Val) (y : Ref sig .tc) : Prop where
  key_eq : key y = n
  writes : op.writes = {Proc.devRef (τ := τ) .tc y}
  fresh : op.fresh = ∅
  bufs : op.bufs ⊆ tcRefs τ sig
  reads : ∀ V V' : Valuation τ sig Val, (∀ r : Ref sig .tc, key r < n → V (Proc.devRef .tc r) = V' (Proc.devRef .tc r)) →
    op.result V (Proc.devRef .tc y) = op.result V' (Proc.devRef .tc y)

/-- Every operation of the line is a `Step`, at places `n`, `n + 1`, … -/
def Good : Nat → List (HloOp τ sig Val) → Prop
  | _, [] => True
  | n, op :: ops => (∃ y, Step n op y) ∧ Good (n + 1) ops

theorem Good.append {n : Nat} {l₁ l₂ : List (HloOp τ sig Val)} (h₁ : Good n l₁) (h₂ : Good (n + l₁.length) l₂) :
    Good n (l₁ ++ l₂) := by
  induction l₁ generalizing n with
  | nil => exact h₂
  | cons op l ih =>
    refine ⟨h₁.1, ih h₁.2 ?_⟩
    have e : n + 1 + l.length = n + (op :: l).length := by rw [List.length_cons]; omega
    rw [e]; exact h₂

/-- A buffer before place `n` keeps its contents through a line that starts at `n`. -/
theorem after_lt {n : Nat} {ops : List (HloOp τ sig Val)} (h : Good n ops) (V : Valuation τ sig Val) {r : Ref sig .tc}
    (hr : key r < n) : after ops V (Proc.devRef .tc r) = V (Proc.devRef .tc r) := by
  induction ops generalizing n V with
  | nil => rfl
  | cons op l ih =>
    obtain ⟨⟨y, hy⟩, hl⟩ := h
    rw [after_cons, ih hl _ (by omega)]
    refine result_of_writes_ne op V y r hy.writes ?_
    rintro rfl
    exact absurd hy.key_eq (by omega)

/-- Running any operation of a good line on the line's final contents changes nothing. -/
theorem fixed_of_good {n : Nat} {ops : List (HloOp τ sig Val)} (h : Good n ops) (V : Valuation τ sig Val) :
    ∀ op ∈ ops, op.result (after ops V) = after ops V := by
  induction ops generalizing n V with
  | nil => intro op hop; cases hop
  | cons op l ih =>
    obtain ⟨⟨y, hy⟩, hl⟩ := h
    intro o ho
    rcases List.mem_cons.mp ho with rfl | ho
    · funext b
      rw [after_cons]
      by_cases hb : b = Proc.devRef (τ := τ) .tc y
      · subst hb
        rw [after_lt hl (o.result V) (by rw [hy.key_eq]; omega)]
        refine hy.reads _ _ fun r hr => ?_
        rw [after_lt hl (o.result V) (by omega)]
        refine result_of_writes_ne o V y r hy.writes ?_
        rintro rfl
        exact absurd hy.key_eq (by omega)
      · exact o.result_of_not_mem _ (by rw [hy.writes, Finset.mem_singleton]; exact hb)
    · rw [after_cons]; exact ih hl _ o ho

theorem forall_bufs_of_good {n : Nat} {ops : List (HloOp τ sig Val)} (h : Good n ops) :
    ops.Forall fun op => op.bufs ⊆ tcRefs τ sig := by
  induction ops generalizing n with
  | nil => trivial
  | cons op l ih => obtain ⟨⟨y, hy⟩, hl⟩ := h; exact (List.forall_cons _ _ _).mpr ⟨hy.bufs, ih hl⟩

theorem forall_fresh_of_good {n : Nat} {ops : List (HloOp τ sig Val)} (h : Good n ops) : ∀ op ∈ ops, op.fresh = ∅ := by
  induction ops generalizing n with
  | nil => intro op hop; cases hop
  | cons op l ih =>
    obtain ⟨⟨y, hy⟩, hl⟩ := h
    intro o ho
    rcases List.mem_cons.mp ho with rfl | ho
    · exact hy.fresh
    · exact ih hl o ho

/-! ## Each builder is a step -/

section Builders

variable {n : Nat} {x a b c e y : Ref sig .tc}

/-- A set of TensorCore buffers, one more in front. -/
theorem insert_sub (r : Ref sig .tc) {S : Finset (DevRef τ sig)} (h : S ⊆ tcRefs τ sig) :
    insert (Proc.devRef (τ := τ) .tc r) S ⊆ tcRefs τ sig :=
  Finset.insert_subset_iff.mpr ⟨devRef_mem_tcRefs r, h⟩

theorem singleton_sub (r : Ref sig .tc) : ({Proc.devRef (τ := τ) .tc r} : Finset (DevRef τ sig)) ⊆ tcRefs τ sig :=
  Finset.singleton_subset_iff.mpr (devRef_mem_tcRefs r)

theorem step_nullary {v : y.ty.Contents Val} {hy} (ky : key y = n) : Step n (StableHlo.nullary (τ := τ) y v hy) y where
  key_eq := ky
  writes := rfl
  fresh := rfl
  bufs := singleton_sub y
  reads V V' _ := by rw [nullary_result, nullary_result]

theorem step_unary {f : x.ty.Contents Val → y.ty.Contents Val} {hx hy} (kx : key x < n) (ky : key y = n) :
    Step n (StableHlo.unary (τ := τ) x y f hx hy) y where
  key_eq := ky
  writes := rfl
  fresh := rfl
  bufs := insert_sub x (singleton_sub y)
  reads V V' h := by rw [unary_result, unary_result, h x kx]

theorem step_binary {f : a.ty.Contents Val → b.ty.Contents Val → y.ty.Contents Val} {ha hb hy} (ka : key a < n) (kb : key b < n)
    (ky : key y = n) : Step n (StableHlo.binary (τ := τ) a b y f ha hb hy) y where
  key_eq := ky
  writes := rfl
  fresh := rfl
  bufs := insert_sub a (insert_sub b (singleton_sub y))
  reads V V' h := by rw [binary_result, binary_result, h a ka, h b kb]

theorem step_quaternary {f : a.ty.Contents Val → b.ty.Contents Val → c.ty.Contents Val → e.ty.Contents Val → y.ty.Contents Val}
    {ha hb hc he hy} (ka : key a < n) (kb : key b < n) (kc : key c < n) (ke : key e < n)
    (ky : key y = n) : Step n (StableHlo.quaternary (τ := τ) a b c e y f ha hb hc he hy) y where
  key_eq := ky
  writes := rfl
  fresh := rfl
  bufs := insert_sub a (insert_sub b (insert_sub c (insert_sub e (singleton_sub y))))
  reads V V' h := by rw [quaternary_result, quaternary_result, h a ka, h b kb, h c kc, h e ke]

theorem step_reshape {he hn hx hy} (kx : key x < n) (ky : key y = n) :
    Step n (StableHlo.reshape (τ := τ) (Val := Val) x y he hn hx hy) y where
  key_eq := ky
  writes := rfl
  fresh := rfl
  bufs := insert_sub x (singleton_sub y)
  reads V V' h := by rw [reshape_result, reshape_result, h x kx]

end Builders

/-! ## Reading a program as a line -/

/-- `p` is the straight line `ops`, whose operations are steps at places `n`, `n + 1`, … -/
def IsLine (n : Nat) (p : Prog (TpuEff nD τ sig Val Λ .tc) PUnit) (ops : List (HloOp τ sig Val)) : Prop :=
  p = seq ops ∧ Good n ops

theorem IsLine.nil {n : Nat} : IsLine (nD := nD) (Λ := Λ) n (pure ⟨⟩ : Prog (TpuEff nD τ sig Val Λ .tc) PUnit) [] := ⟨rfl, trivial⟩

theorem IsLine.single {n : Nat} {op : HloOp τ sig Val} (hs : ∃ y, Step n op y) :
    IsLine (nD := nD) (Λ := Λ) n (hlo rfl op fun _ => .ret (⟨⟩ : PUnit)) [op] := ⟨rfl, hs, trivial⟩

theorem IsLine.cons {n : Nat} {op : HloOp τ sig Val} {k : Prog (TpuEff nD τ sig Val Λ .tc) PUnit}
    {ops : List (HloOp τ sig Val)} (hs : ∃ y, Step n op y) (h : IsLine (n + 1) k ops) :
    IsLine n ((hlo rfl op fun _ => .ret (⟨⟩ : PUnit)) >>= fun _ => k) (op :: ops) := by
  refine ⟨?_, hs, h.2⟩
  rw [h.1]; rfl

theorem IsLine.append {n : Nat} {p k : Prog (TpuEff nD τ sig Val Λ .tc) PUnit} {l₁ l₂ : List (HloOp τ sig Val)}
    (h₁ : IsLine n p l₁) (h₂ : IsLine (n + l₁.length) k l₂) : IsLine n (p >>= fun _ => k) (l₁ ++ l₂) := by
  refine ⟨?_, h₁.2.append h₂.2⟩
  rw [h₁.1, h₂.1, seq_append]

/-! ## The equations, at typed references -/

section Read

variable {T Tx Ta Tb Tc Te Ty : BufTy}

/-- What the typed reference's buffer holds. -/
def rd (G : Valuation τ sig Val) (t : TRef sig T) : T.Contents Val := t.ofBuf (G (Proc.devRef .tc t.ref))

/-- Running `op` on `G` changes nothing. -/
def Fixed (G : Valuation τ sig Val) (op : HloOp τ sig Val) : Prop := op.result G = G

variable {G : Valuation τ sig Val}

theorem rd_nullary {y : TRef sig Ty} {v : Ty.Contents Val} (h : Fixed G (TRef.nullary y v)) : rd G y = v := by
  have e := congrFun h (Proc.devRef .tc y.ref)
  rw [nullary_result] at e
  unfold rd; rw [← e, TRef.ofBuf_toBuf]

theorem rd_unary {x : TRef sig Tx} {y : TRef sig Ty} {f : Tx.Contents Val → Ty.Contents Val} (h : Fixed G (TRef.unary x y f)) :
    rd G y = f (rd G x) := by
  have e := congrFun h (Proc.devRef .tc y.ref)
  rw [unary_result] at e
  unfold rd; rw [← e, TRef.ofBuf_toBuf]

theorem rd_binary {a : TRef sig Ta} {b : TRef sig Tb} {y : TRef sig Ty} {f : Ta.Contents Val → Tb.Contents Val → Ty.Contents Val}
    (h : Fixed G (TRef.binary a b y f)) : rd G y = f (rd G a) (rd G b) := by
  have e := congrFun h (Proc.devRef .tc y.ref)
  rw [binary_result] at e
  unfold rd; rw [← e, TRef.ofBuf_toBuf]

theorem rd_quaternary {a : TRef sig Ta} {b : TRef sig Tb} {c : TRef sig Tc} {d : TRef sig Te} {y : TRef sig Ty}
    {f : Ta.Contents Val → Tb.Contents Val → Tc.Contents Val → Te.Contents Val → Ty.Contents Val}
    (h : Fixed G (TRef.quaternary a b c d y f)) : rd G y = f (rd G a) (rd G b) (rd G c) (rd G d) := by
  have e := congrFun h (Proc.devRef .tc y.ref)
  rw [quaternary_result] at e
  unfold rd; rw [← e, TRef.ofBuf_toBuf]

end Read

end Cert.Line

end
-- ==== Proof.RefRun.lean ====
/-
  The reference as one line of operations, and its run: the final contents satisfy every operation's equation.
-/
module

public import proofs.«01_k».proof.Proof.Line
public import proofs.«01_k».proof.Proof.Gen.ReferenceIdeal
public import Idealize.ShloMosaic.Lib.Quiescent

@[expose] public section

set_option maxRecDepth 100000
set_option maxHeartbeats 4000000

noncomputable section

namespace Cert.RefRun

open Cert.ReferenceIdeal Cert.ReferenceIdeal.Gen Cert.Line
open Idealize.ShloMosaic Idealize.ShloMosaic.StableHlo Idealize.SL.Sem
open Facts₀ Facts

variable {F : FTy → Type} [FloatOps F]

/-- The reference's program is a line, whose operations are read off the printed text. -/
def line : { ops : List (HloOp τ sig (Elt F)) // ∀ d, IsLine 1 (main (F := F) d) ops } := by
  apply Subtype.mk
  case property =>
    intro d
    unfold main fn_uniform.body fn_argmax.body fn_one_hot.body
    repeat first
      | apply IsLine.cons
      | exact ⟨_, step_nullary rfl⟩
      | exact ⟨_, step_unary (by decide) rfl⟩
      | exact ⟨_, step_binary (by decide) (by decide) rfl⟩
      | exact ⟨_, step_reshape (by decide) rfl⟩
      | exact ⟨_, step_quaternary (by decide) (by decide) (by decide) (by decide) rfl⟩
      | apply IsLine.append
      | exact IsLine.nil
      | apply IsLine.single
      | unfold fn_threefry2x32.body
      | unfold fn_threefry2x32.body_part0
      | unfold fn_threefry2x32.body_part1
      | unfold fn_threefry2x32.body_part2
      | unfold fn_threefry2x32.body_part3

/-- The reference's operations, in order. -/
def ops : List (HloOp τ sig (Elt F)) := (line (F := F)).1

theorem scopedRefs_eq : (Finset.univ.filter fun b : Ref sig .tc => b.isScoped) = ∅ := by decide
theorem scopedSems_eq : (Finset.univ.filter fun sm : SemLoc sig => sm.isScoped .tc) = ∅ := by decide

/-- What the reference leaves in device `d`'s buffers. -/
def G (m : (ℓ : Loc nD τ sig) → Buf (Elt F) ℓ) (d : Dev nD) : Valuation τ sig (Elt F) := after ops (launchContents m d)

/-- The reference runs, and leaves `G` in every buffer. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = G m d (Proc.devRef .tc b) :=
  run_seq scopedRefs_eq scopedSems_eq defs main (fun _ => ops) (fun d => (line.2 d).1)
    (fun d => forall_bufs_of_good (line.2 d).2) m ρ (fun d => forall_fresh_of_good (line.2 d).2)

/-- The argument is as launched. -/
theorem G_arg0 (m : (ℓ : Loc nD τ sig) → Buf (Elt F) ℓ) (d : Dev nD) :
    G m d (Proc.devRef .tc main_arg0) = m ((d.tc : Thread nD τ).loc main_arg0) :=
  after_lt (line.2 d).2 _ (by decide)

/-- Running again any operation of a stretch of the line changes nothing. -/
theorem seg (m : (ℓ : Loc nD τ sig) → Buf (Elt F) ℓ) (d : Dev nD) (i n : Nat) :
    ∀ op ∈ (ops.drop i).take n, Fixed (G m d) op :=
  fun op h => fixed_of_good (line.2 d).2 _ op (List.mem_of_mem_drop (List.mem_of_mem_take h))

/-- The reference's frame: it runs, its argument ends unchanged, and it has no counters. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r h => ⟨fun c => (h c main_arg0).trans (G_arg0 m c), sem_eq_zero_of_no_sems (by decide) r.2⟩) (run m ρ)

end Cert.RefRun

end
-- ==== Proof.PreRows.lean ====
/-
  What the precondition says of a row: no logit of it is infinity, and some logit is more than minus infinity.
-/
module

public import proofs.«01_k».proof.Pre_finite_rows
public import Idealize.ShloMosaic.Lib.ReduceAll
public import Idealize.ShloMosaic.Lib.Pointwise.Reduce
public import Idealize.ShloMosaic.PureOps.Ideal.Laws

@[expose] public section

noncomputable section

namespace Cert.PreRows

open Idealize.ShloMosaic Cert.Pre_finite_rows

theorem facts : Cert.Pre_finite_rows.Facts := ⟨by decide, by decide, by decide, by decide⟩

theorem bot_lit : Ideal.ofBits .f32 0xFF800000#32 = ⊥ := by simp [Ideal.ofBits, Ideal.ieee]
theorem top_lit : Ideal.ofBits .f32 0x7F800000#32 = ⊤ := by simp [Ideal.ofBits, Ideal.ieee]

/-- The word of "more than the one and less than the other". -/
theorem between (x a b : EReal) (h : Ideal.cmp .ogt x a &&& Ideal.cmp .olt x b = 1#1) : a < x ∧ x < b := by
  unfold Ideal.cmp at h
  dsimp only at h
  by_cases h1 : a < x
  · by_cases h2 : x < b
    · exact ⟨h1, h2⟩
    · rw [decide_eq_false h2, decide_eq_true h1] at h; exact absurd h (by decide)
  · by_cases h2 : x < b
    · rw [decide_eq_false h1, decide_eq_true h2] at h; exact absurd h (by decide)
    · rw [decide_eq_false h1, decide_eq_false h2] at h; exact absurd h (by decide)

variable [Facts]
open Facts

/-- The row's greatest, as the precondition takes it. -/
def greatest {F : FTy → Type} [FloatOps F] (x : FVec F S128x100000 .f32) : FVec F S128 .f32 :=
  Host.reduce FloatOps.maximumf x (constant S_ .f32 0xFF800000#32) reducesTo_S128x100000_S128_d1 h_S_

theorem fn_eq {F : FTy → Type} [FloatOps F] (x : FVec F S128x100000 .f32) : fn x = Host.reduce IntOp.andi
    (andi (cmpf .ogt (greatest x) (broadcastInDim S128 ![] bcast_S_S128 (constant S_ .f32 0xFF800000#32)))
      (cmpf .olt (greatest x) (broadcastInDim S128 ![] bcast_S_S128 (constant S_ .f32 0x7F800000#32))))
    (constantI S_ 1 1#1) reducesTo_S128_S_d0 h_S_ := rfl

theorem greatest_apply (x : FVec Ideal S128x100000 .f32) (r : Fin 128) :
    greatest x (ix1 r) = (Finset.univ : Finset (Fin 100000)).fold max (⊥ : EReal) fun c => x (ix2 r c) := by
  unfold greatest
  rw [Host.reduce_eq_fold, Shape.ReducesTo.fold_fiber_r2_a1]
  show (Finset.univ : Finset (Fin 100000)).fold max (Ideal.ofBits .f32 0xFF800000#32) _ = _
  rw [bot_lit]; rfl

theorem at_row (g : FVec Ideal S128 .f32) (j : S128.Idx) :
    andi (cmpf .ogt g (broadcastInDim S128 ![] bcast_S_S128 (constant S_ .f32 0xFF800000#32)))
      (cmpf .olt g (broadcastInDim S128 ![] bcast_S_S128 (constant S_ .f32 0x7F800000#32))) j
      = Ideal.cmp .ogt (g j) (Ideal.ofBits .f32 0xFF800000#32) &&& Ideal.cmp .olt (g j) (Ideal.ofBits .f32 0x7F800000#32) := rfl

theorem rows (x : FVec Ideal S128x100000 .f32) (h : fn (F := Ideal) x = fun _ => 1#1) (r : Fin 128) :
    (∀ c : Fin 100000, (x (ix2 r c) : EReal) < ⊤) ∧ ∃ c : Fin 100000, (⊥ : EReal) < x (ix2 r c) := by
  rw [fn_eq] at h
  haveI : Subsingleton S_.Idx := ⟨fun a b => funext fun i => i.elim0⟩
  have h1 := Host.reduce_andi_all _ _ _ _ (fun i => i.elim0) (congrFun h _) (ix1 r)
  rw [at_row, bot_lit, top_lit] at h1
  obtain ⟨h2, h3⟩ := between _ _ _ h1
  rw [greatest_apply] at h2 h3
  refine ⟨fun c => lt_of_le_of_lt ((Finset.le_fold_max _).2 (.inr ⟨c, Finset.mem_univ c, le_rfl⟩)) h3, ?_⟩
  by_contra hc
  refine absurd h2 (not_lt.mpr ((Finset.fold_max_le _).2 ⟨le_rfl, fun c _ => ?_⟩))
  exact not_lt.mp fun hl => hc ⟨c, hl⟩

end Cert.PreRows

end
-- ==== Proof.Hash.lean ====
/-
  The hash both programs compute: twenty rounds on a pair of words, five key additions. The kernel's vectors and the
  reference's arrays are both read at an index against this one scalar text.
-/
module

public import proofs.«01_k».proof.Defs

@[expose] public section

namespace Cert.Hash

open Idealize.ShloMosaic

/-- The two words a round works on. -/
abbrev W2 := BitVec 32 × BitVec 32

/-- A word turned left by `r`, where `r'` is 32 less `r`. -/
def rotl (r r' : BitVec 32) (x : BitVec 32) : BitVec 32 := x <<< r ||| x >>> r'

/-- One round. -/
def rnd (r r' : BitVec 32) (p : W2) : W2 := (p.1 + p.2, rotl r r' p.2 ^^^ (p.1 + p.2))

/-- A key addition. -/
def inj (a b : BitVec 32) (p : W2) : W2 := (p.1 + a, p.2 + b)

/-- The four rounds that turn by 13, 15, 26 and 6. -/
def four (p : W2) : W2 := rnd 6#32 26#32 (rnd 26#32 6#32 (rnd 15#32 17#32 (rnd 13#32 19#32 p)))

/-- The four rounds that turn by 17, 29, 16 and 24. -/
def four' (p : W2) : W2 := rnd 24#32 8#32 (rnd 16#32 16#32 (rnd 29#32 3#32 (rnd 17#32 15#32 p)))

/-- The hash of a counter under the key `(0, 42)`. -/
def hash (n : BitVec 32) : W2 :=
  inj 466689008#32 5#32 (four (inj 42#32 466689012#32 (four' (inj 0#32 45#32 (four (inj 466689008#32 2#32
    (four' (inj 42#32 466689009#32 (four (0#32, n + 42#32))))))))))

/-- The word of random bits at a counter. -/
def bits (n : BitVec 32) : BitVec 32 := (hash n).1 ^^^ (hash n).2

/-- The word of a number from one to two: the top bits of `bits` under the exponent of one. -/
def word (n : BitVec 32) : BitVec 32 := bits n >>> (9#32) ||| 1065353216#32

/-! ## The same on vectors, as the kernel prints it -/

section Vec

variable {s : Shape}

abbrev V2 (s : Shape) := IVec s 32 × IVec s 32

def vrotl (r r' : BitVec 32) (x : IVec s 32) : IVec s 32 := ori (shli x (broadcast s r)) (shrui x (broadcast s r'))

def vrnd (r r' : BitVec 32) (p : V2 s) : V2 s := (addi p.1 p.2, xori (vrotl r r' p.2) (addi p.1 p.2))

def vinj (a b : BitVec 32) (p : V2 s) : V2 s := (addi p.1 (broadcast s a), addi p.2 (broadcast s b))

/-- The key addition that leaves the first word. -/
def vinj₂ (b : BitVec 32) (p : V2 s) : V2 s := (p.1, addi p.2 (broadcast s b))

/-- A pair of vectors at an index. -/
def at2 (p : V2 s) (j : s.Idx) : W2 := (p.1 j, p.2 j)

theorem at2_vrnd (r r' : BitVec 32) (hr : r.toNat < 32) (hr' : r'.toNat < 32) (p : V2 s) (j : s.Idx) :
    at2 (vrnd r r' p) j = rnd r r' (at2 p j) := by
  have h1 : IntOp.shli .vector (p.2 j) r = p.2 j <<< r := if_pos hr
  have h2 : IntOp.shrui .vector (p.2 j) r' = p.2 j >>> r' := if_pos hr'
  show (_, IntOp.xori (IntOp.ori (IntOp.shli .vector (p.2 j) r) (IntOp.shrui .vector (p.2 j) r')) _) = _
  rw [h1, h2]; rfl

theorem at2_vinj (a b : BitVec 32) (p : V2 s) (j : s.Idx) : at2 (vinj a b p) j = inj a b (at2 p j) := rfl

theorem at2_vinj₂ (b : BitVec 32) (p : V2 s) (j : s.Idx) : at2 (vinj₂ b p) j = inj 0#32 b (at2 p j) := by
  show (_, _) = (_ + 0#32, _)
  rw [BitVec.add_zero]; rfl

def vfour (p : V2 s) : V2 s := vrnd 6#32 26#32 (vrnd 26#32 6#32 (vrnd 15#32 17#32 (vrnd 13#32 19#32 p)))

def vfour' (p : V2 s) : V2 s := vrnd 24#32 8#32 (vrnd 16#32 16#32 (vrnd 29#32 3#32 (vrnd 17#32 15#32 p)))

theorem at2_vfour (p : V2 s) (j : s.Idx) : at2 (vfour p) j = four (at2 p j) := by
  unfold vfour four
  rw [at2_vrnd _ _ (by decide) (by decide), at2_vrnd _ _ (by decide) (by decide), at2_vrnd _ _ (by decide) (by decide),
    at2_vrnd _ _ (by decide) (by decide)]

theorem at2_vfour' (p : V2 s) (j : s.Idx) : at2 (vfour' p) j = four' (at2 p j) := by
  unfold vfour' four'
  rw [at2_vrnd _ _ (by decide) (by decide), at2_vrnd _ _ (by decide) (by decide), at2_vrnd _ _ (by decide) (by decide),
    at2_vrnd _ _ (by decide) (by decide)]

/-- From the first round's result on: the rest of the hash, whose first round the kernel starts at `(n + 42, …)`. -/
def vhash (c : IVec s 32) : V2 s :=
  vinj 466689008#32 5#32 (vfour (vinj 42#32 466689012#32 (vfour' (vinj₂ 45#32 (vfour (vinj 466689008#32 2#32
    (vfour' (vinj 42#32 466689009#32 (vfour (broadcast s 0#32, c))))))))))

theorem at2_vhash (c : IVec s 32) (n : BitVec 32) (j : s.Idx) (h : c j = n + 42#32) : at2 (vhash c) j = hash n := by
  unfold vhash hash
  rw [at2_vinj, at2_vfour, at2_vinj, at2_vfour', at2_vinj₂, at2_vfour, at2_vinj, at2_vfour', at2_vinj, at2_vfour]
  show inj _ _ (four (inj _ _ (four' (inj _ _ (four (inj _ _ (four' (inj _ _ (four (0#32, c j)))))))))) = _
  rw [h]

end Vec

/-- The element at row `r` and column `c` is number `100000 r + c`. -/
def count (r c : Nat) : BitVec 32 := BitVec.ofNat 32 (r * 100000 + c)

end Cert.Hash

end
-- ==== Proof.KernHash.lean ====
/-
  The kernel's own text of the hash is `vhash`: each of its payloads is one word of the pair after a round. The chunk
  and the tail read the same function, at two shapes.
-/
module

public import proofs.«01_k».proof.Proof.Gen.KernelIdeal.Skeleton
public import proofs.«01_k».proof.Proof.Hash

@[expose] public section

noncomputable section

namespace Cert.KernHash

open Idealize.ShloMosaic Cert.Hash Cert.KernelIdeal Cert.KernelIdeal.Gen

variable {F : FTy → Type} [FloatOps F]

/-- The noise the kernel makes of a vector of random words. -/
def vnoise {s : Shape} (b : IVec s 32) : FVec F s .f32 :=
  subf (broadcast s (Scalar.ofBits .f32 0x00000000#32))
    (log (addf (subf (broadcast s (Scalar.ofBits .f32 0x00000000#32))
      (log (addf (subf (bitcastToFloat .f32 (ori (shrui b (broadcast s 9#32)) (broadcast s 1065353216#32)))
        (broadcast s (Scalar.ofBits .f32 0x3F800000#32))) (broadcast s (Scalar.ofBits .f32 0x2EDBE6FF#32)))))
      (broadcast s (Scalar.ofBits .f32 0x2EDBE6FF#32))))

/-- Adding the word nought leaves a vector: the kernel leaves that sum out of its first round. -/
theorem rnd_zero {s : Shape} (r r' : BitVec 32) (c : IVec s 32) :
    vrnd r r' (broadcast s 0#32, c) = (c, xori (vrotl r r' c) c) := by
  have h : addi (broadcast s 0#32) c = c := funext fun j => BitVec.zero_add (c j)
  show (addi (broadcast s 0#32) c, xori _ (addi (broadcast s 0#32) c)) = _
  rw [h]

section Chunk

variable (v0 : BitVec 32) (v5 : IVec S8x4096 32) (c0 c1 : BitVec 32) (k : Fin k0_t1_loop.trips)

/-- The pair the first stretch of a trip ends in: a round into the second group. -/
theorem chunk1 : (k0_pay10 v0 v5 c0 c1 k, k0_pay11 v0 v5 c0 c1 k)
    = vrnd 17#32 15#32 (vinj 42#32 466689009#32 (vfour (broadcast S8x4096 0#32, k0_pay2 v0 v5 c0 c1 k))) := by
  have h1 : vrnd 13#32 19#32 (broadcast S8x4096 0#32, k0_pay2 v0 v5 c0 c1 k)
    = (k0_pay2 v0 v5 c0 c1 k, k0_pay3 v0 v5 c0 c1 k) := rnd_zero _ _ _
  have h2 : vrnd 15#32 17#32 (k0_pay2 v0 v5 c0 c1 k, k0_pay3 v0 v5 c0 c1 k)
    = (k0_pay4 v0 v5 c0 c1 k, k0_pay5 v0 v5 c0 c1 k) := rfl
  have h3 : vrnd 26#32 6#32 (k0_pay4 v0 v5 c0 c1 k, k0_pay5 v0 v5 c0 c1 k)
    = (k0_pay6 v0 v5 c0 c1 k, k0_pay7 v0 v5 c0 c1 k) := rfl
  rw [vfour, h1, h2, h3]; rfl

variable (p : V2 S8x4096)

/-- The second stretch, over the pair `p` it starts from. -/
theorem chunk2 : (k0_pay22 p.2 (addi p.1 p.2), k0_pay23 p.2 (addi p.1 p.2))
    = vrnd 26#32 6#32 (vrnd 15#32 17#32 (vrnd 13#32 19#32 (vinj 466689008#32 2#32
        (vrnd 24#32 8#32 (vrnd 16#32 16#32 (vrnd 29#32 3#32 p)))))) := by
  have h1 : vrnd 29#32 3#32 p = (addi p.1 p.2, k0_pay13 p.2 (addi p.1 p.2)) := rfl
  generalize addi p.1 p.2 = y at *
  have h2 : vrnd 16#32 16#32 (y, k0_pay13 p.2 y) = (k0_pay14 p.2 y, k0_pay15 p.2 y) := rfl
  have h3 : vinj 466689008#32 2#32 (vrnd 24#32 8#32 (k0_pay14 p.2 y, k0_pay15 p.2 y))
    = (addi (k0_pay16 p.2 y) (broadcast S8x4096 466689008#32), k0_pay17 p.2 y) := rfl
  have h4 : vrnd 13#32 19#32 (addi (k0_pay16 p.2 y) (broadcast S8x4096 466689008#32), k0_pay17 p.2 y)
    = (k0_pay18 p.2 y, k0_pay19 p.2 y) := rfl
  have h5 : vrnd 15#32 17#32 (k0_pay18 p.2 y, k0_pay19 p.2 y) = (k0_pay20 p.2 y, k0_pay21 p.2 y) := rfl
  rw [h1, h2, h3, h4, h5]; rfl

/-- The third stretch, over the pair `p` it starts from: its words before the fourth key addition's first round. -/
theorem chunk3 : (addi (k0_pay32 p.2 (addi p.1 p.2)) (broadcast S8x4096 42#32), k0_pay33 p.2 (addi p.1 p.2))
    = vinj 42#32 466689012#32 (vfour' (vinj₂ 45#32 (vrnd 6#32 26#32 p))) := by
  have h1 : vinj₂ 45#32 (vrnd 6#32 26#32 p) = (addi p.1 p.2, k0_pay25 p.2 (addi p.1 p.2)) := rfl
  generalize addi p.1 p.2 = y at *
  have h2 : vrnd 17#32 15#32 (y, k0_pay25 p.2 y) = (k0_pay26 p.2 y, k0_pay27 p.2 y) := rfl
  have h3 : vrnd 29#32 3#32 (k0_pay26 p.2 y, k0_pay27 p.2 y) = (k0_pay28 p.2 y, k0_pay29 p.2 y) := rfl
  have h4 : vrnd 16#32 16#32 (k0_pay28 p.2 y, k0_pay29 p.2 y) = (k0_pay30 p.2 y, k0_pay31 p.2 y) := rfl
  rw [vfour', h1, h2, h3, h4]; rfl

/-- The last stretch: four rounds, a key addition, and the noise. -/
theorem chunk4 : k0_pay37 (F := F) (addi p.1 p.2) (shli p.2 (broadcast S8x4096 13#32)) (shrui p.2 (broadcast S8x4096 19#32))
    = vnoise (xori (vinj 466689008#32 5#32 (vfour p)).1 (vinj 466689008#32 5#32 (vfour p)).2) := by
  unfold k0_pay37 vfour
  extract_lets v362 x1 s1 v365 v366 v367 v368 v369 x2 s2 v372 v373 v374 v375 v376 x3
  have h1 : vrnd 13#32 19#32 p = (addi p.1 p.2, x1) := rfl
  have h2 : vrnd 15#32 17#32 (addi p.1 p.2, x1) = (s1, x2) := rfl
  have h3 : vrnd 26#32 6#32 (s1, x2) = (s2, x3) := rfl
  rw [h1, h2, h3]; rfl

/-- A trip's noise is the noise of the hash of its counters. -/
theorem chunk_noise :
    let v269 := k0_pay11 v0 v5 c0 c1 k
    let v270 := k0_pay12 v0 v5 c0 c1 k
    let v315 := k0_pay23 v269 v270
    let v316 := k0_pay24 v269 v270
    k0_pay37 (F := F) (k0_pay34 v315 v316) (k0_pay35 v315 v316) (k0_pay36 v315 v316)
      = vnoise (xori (vhash (k0_pay2 v0 v5 c0 c1 k)).1 (vhash (k0_pay2 v0 v5 c0 c1 k)).2) := by
  intro v269 v270 v315 v316
  have h1 := chunk1 v0 v5 c0 c1 k
  have h2 := chunk2 (k0_pay10 v0 v5 c0 c1 k, v269)
  have h3 := chunk3 (k0_pay22 v269 v270, v315)
  have h4 := chunk4 (F := F) (addi (k0_pay32 v315 v316) (broadcast S8x4096 42#32), k0_pay33 v315 v316)
  have e2 : (k0_pay22 v269 v270, v315) = _ := h2
  have e3 : (addi (k0_pay32 v315 v316) (broadcast S8x4096 42#32), k0_pay33 v315 v316) = _ := h3
  refine Eq.trans (show _ = _ from rfl) (h4.trans ?_)
  rw [e3, e2, h1]; rfl

end Chunk

section Tail

variable (i : grid0.Coords)

/-- The pair the tail's first stretch ends in. -/
theorem tail1 : (k0_pay49 i, k0_pay50 i)
    = vrnd 26#32 6#32 (vrnd 15#32 17#32 (vrnd 13#32 19#32 (broadcast S8x1696 0#32, k0_pay45 i))) := by
  have h1 : vrnd 13#32 19#32 (broadcast S8x1696 0#32, k0_pay45 i) = (k0_pay45 i, k0_pay46 i) := rnd_zero _ _ _
  have h2 : vrnd 15#32 17#32 (k0_pay45 i, k0_pay46 i) = (k0_pay47 i, k0_pay48 i) := rfl
  rw [h1, h2]; rfl

variable (p : V2 S8x1696)

/-- The second stretch, over the pair `p` it starts from. -/
theorem tail2 : (addi (k0_pay59 p.2 (addi p.1 p.2) 6#32) (broadcast S8x1696 466689008#32), k0_pay60 p.2 (addi p.1 p.2) 6#32)
    = vinj 466689008#32 2#32 (vfour' (vinj 42#32 466689009#32 (vrnd 6#32 26#32 p))) := by
  have h1 : vinj 42#32 466689009#32 (vrnd 6#32 26#32 p)
    = (addi (addi p.1 p.2) (broadcast S8x1696 42#32), k0_pay52 p.2 (addi p.1 p.2) 6#32) := rfl
  generalize addi p.1 p.2 = y at *
  have h2 : vrnd 17#32 15#32 (addi y (broadcast S8x1696 42#32), k0_pay52 p.2 y 6#32)
    = (k0_pay53 p.2 y 6#32, k0_pay54 p.2 y 6#32) := rfl
  have h3 : vrnd 29#32 3#32 (k0_pay53 p.2 y 6#32, k0_pay54 p.2 y 6#32) = (k0_pay55 p.2 y 6#32, k0_pay56 p.2 y 6#32) := rfl
  have h4 : vrnd 16#32 16#32 (k0_pay55 p.2 y 6#32, k0_pay56 p.2 y 6#32) = (k0_pay57 p.2 y 6#32, k0_pay58 p.2 y 6#32) := rfl
  rw [vfour', h1, h2, h3, h4]; rfl

/-- The third stretch, over the pair `p` it starts from. -/
theorem tail3 :
    let y := addi p.1 p.2
    let t := shli p.2 (broadcast S8x1696 13#32)
    (k0_pay72 p.2 y t 19#32, k0_pay73 p.2 y t 19#32) = vrnd 29#32 3#32 (vrnd 17#32 15#32 (vinj₂ 45#32 (vfour p))) := by
  intro y t
  have h1 : vrnd 13#32 19#32 p = (y, k0_pay63 p.2 y t 19#32) := rfl
  have h2 : vrnd 15#32 17#32 (y, k0_pay63 p.2 y t 19#32) = (k0_pay64 p.2 y t 19#32, k0_pay65 p.2 y t 19#32) := rfl
  have h3 : vrnd 26#32 6#32 (k0_pay64 p.2 y t 19#32, k0_pay65 p.2 y t 19#32)
    = (k0_pay66 p.2 y t 19#32, k0_pay67 p.2 y t 19#32) := rfl
  have h4 : vinj₂ 45#32 (vrnd 6#32 26#32 (k0_pay66 p.2 y t 19#32, k0_pay67 p.2 y t 19#32))
    = (k0_pay68 p.2 y t 19#32, k0_pay69 p.2 y t 19#32) := rfl
  have h5 : vrnd 17#32 15#32 (k0_pay68 p.2 y t 19#32, k0_pay69 p.2 y t 19#32)
    = (k0_pay70 p.2 y t 19#32, k0_pay71 p.2 y t 19#32) := rfl
  rw [vfour, h1, h2, h3, h4, h5]; rfl

/-- The last stretch, over the pair `p` it starts from: the random words. -/
theorem tail4 : k0_pay76 (addi p.1 p.2) (vrotl 16#32 16#32 p.2)
    = (fun q : V2 S8x1696 => xori q.1 q.2) (vinj 466689008#32 5#32 (vfour (vinj 42#32 466689012#32
        (vrnd 24#32 8#32 (vrnd 16#32 16#32 p))))) := by
  unfold k0_pay76 vfour
  extract_lets x0 s0 v135 v136 v137 v138 v139 v140 v141 a1 v143 b1 s2 v146 v147 v148 v149 v150 x2 s3 v153 v154 v155 v156 v157 x3
    s4 v160 v161 v162 v163 v164 x4
  have h1 : vrnd 16#32 16#32 p = (addi p.1 p.2, x0) := rfl
  have h2 : vinj 42#32 466689012#32 (vrnd 24#32 8#32 (addi p.1 p.2, x0)) = (a1, b1) := rfl
  have h3 : vrnd 13#32 19#32 (a1, b1) = (s2, x2) := rfl
  have h4 : vrnd 15#32 17#32 (s2, x2) = (s3, x3) := rfl
  have h5 : vrnd 26#32 6#32 (s3, x3) = (s4, x4) := rfl
  rw [h1, h2, h3, h4, h5]; rfl

/-- The tail's random words are the hash of its counters. -/
theorem tail_bits :
    let v39 := k0_pay50 i
    let v40 := k0_pay51 i
    let v82 := k0_pay60 v39 v40 6#32
    let v83 := k0_pay61 v39 v40 6#32
    let v85 := k0_pay62 v39 v40 6#32
    k0_pay76 (k0_pay74 v82 v83 v85 19#32) (k0_pay75 v82 v83 v85 19#32)
      = xori (vhash (k0_pay45 i)).1 (vhash (k0_pay45 i)).2 := by
  intro v39 v40 v82 v83 v85
  have h1 : (k0_pay49 i, v39) = _ := tail1 i
  have h2 : (addi (k0_pay59 v39 v40 6#32) (broadcast S8x1696 466689008#32), v82) = _ := tail2 (k0_pay49 i, v39)
  have h3 : (k0_pay72 v82 v83 v85 19#32, k0_pay73 v82 v83 v85 19#32) = _ :=
    tail3 (addi (k0_pay59 v39 v40 6#32) (broadcast S8x1696 466689008#32), v82)
  refine Eq.trans (show _ = _ from rfl) ((tail4 (k0_pay72 v82 v83 v85 19#32, k0_pay73 v82 v83 v85 19#32)).trans ?_)
  rw [h3, h2, h1]; rfl

end Tail

end Cert.KernHash

end
-- ==== Proof.KernRun.lean ====
/-
  What one block's run does, in plain terms: a trip of the first loop, the carried lanes after all of them, and the stores
  of the second loop and of the tail.  Stated for every reading of the floats.
-/
module

public import proofs.«01_k».proof.Proof.Gen.KernelIdeal.Frame
public import proofs.«01_k».proof.Proof.KernHash

@[expose] public section

set_option maxRecDepth 20000

noncomputable section

namespace Cert.KernRun

open Idealize.ShloMosaic Cert.Hash Cert.KernHash Cert.KernelIdeal Cert.KernelIdeal.Gen

variable {F : FTy → Type} [FloatOps F]

/-- The random words of trip `k`. -/
def words (v0 : BitVec 32) (k : Fin k0_t1_loop.trips) : IVec S8x4096 32 :=
  xori (vhash (k0_pay2 v0 k0_pay38 0#32 1#32 k)).1 (vhash (k0_pay2 v0 k0_pay38 0#32 1#32 k)).2

/-- The random words of the tail. -/
def tailWords (i : grid0.Coords) : IVec S8x1696 32 := xori (vhash (k0_pay45 i)).1 (vhash (k0_pay45 i)).2

section Runs

variable (c : Dev nD) (i : grid0.Coords) (arg1 : Memref sig .tc .vmem S8x100000 .f32) (harg1 : arg1.IsWhole)
  (arg2 : Memref sig .tc .vmem S8x100000 .f32) (harg2 : arg2.IsWhole)

/-- The logits trip `k` reads. -/
def chunk (X : BufTy.Contents (Elt F) arg1.view.ty) (k : Fin k0_t1_loop.trips) : Vec F S8x4096 .f32 :=
  View.readAt (Elt F) arg1.view (Rect.unit (s := S8x100000) (k0_off1 k) S8x4096.size (k0_off1_inb k)).toLoadRect X

/-- The logits the tail reads. -/
def tail (X : BufTy.Contents (Elt F) arg1.view.ty) : Vec F S8x1696 .f32 :=
  View.readAt (Elt F) arg1.view
    (Rect.unit (s := S8x100000) ![0, 98304] S8x1696.size inb_S8x100000_S8x1696_0_98304).toLoadRect X

theorem trip_eq (v0 : BitVec 32) (X : BufTy.Contents (Elt F) arg1.view.ty) (k : Fin k0_t1_loop.trips)
    (acc : FVec F S8x4096 .f32 × IVec S8x4096 32) :
    (trip_k0_t1 (F := F) Variants.none c none i arg1 harg1 arg2 harg2 v0 X k).1 acc
      = (k0_pay43 acc.1 (vnoise (words v0 k)) (chunk arg1 X k),
         k0_pay44 acc.1 acc.2 (Scalar.muli (Scf.iv 0#32 1#32 k) 4096#32) (vnoise (words v0 k)) (chunk arg1 X k)) := by
  have h := chunk_noise (F := F) v0 k0_pay38 0#32 1#32 k
  unfold words
  rw [← h]
  unfold trip_k0_t1
  rfl

/-- The lanes before trip `k`. -/
def lanes (x0 : Vec F S8x100000 .f32) (k : ℕ) : FVec F S8x4096 .f32 × IVec S8x4096 32 :=
  st_k0_t1 (F := F) Variants.none c none i arg1 harg1 arg2 harg2 (Scalar.muli (BitVec.ofNat 32 (i 0).val) 800000#32)
    (harg1.unread x0) (k0_pay39, k0_pay40) k

theorem lanes_succ (x0 : Vec F S8x100000 .f32) (k : Fin k0_t1_loop.trips) :
    lanes c i arg1 harg1 arg2 harg2 x0 (k.val + 1)
      = (k0_pay43 (lanes c i arg1 harg1 arg2 harg2 x0 k.val).1
          (vnoise (words (Scalar.muli (BitVec.ofNat 32 (i 0).val) 800000#32) k)) (chunk arg1 (harg1.unread x0) k),
         k0_pay44 (lanes c i arg1 harg1 arg2 harg2 x0 k.val).1 (lanes c i arg1 harg1 arg2 harg2 x0 k.val).2
          (Scalar.muli (Scf.iv 0#32 1#32 k) 4096#32)
          (vnoise (words (Scalar.muli (BitVec.ofNat 32 (i 0).val) 800000#32) k)) (chunk arg1 (harg1.unread x0) k)) :=
  (st_k0_t1_succ (F := F) Variants.none c none i arg1 harg1 arg2 harg2 _ _ _ k).trans
    (trip_eq c i arg1 harg1 arg2 harg2 _ _ k _)

/-- The lanes after every trip. -/
def last (x0 : Vec F S8x100000 .f32) : FVec F S8x4096 .f32 × IVec S8x4096 32 :=
  lanes c i arg1 harg1 arg2 harg2 x0 (Scf.trips 0#32 (Scalar.addi 0#32 24#32) 1#32)

/-- The columns the block picks, one a row. -/
def pick (x0 : Vec F S8x100000 .f32) : IVec S8x1 32 :=
  k0_pay77 (last c i arg1 harg1 arg2 harg2 x0).1 (last c i arg1 harg1 arg2 harg2 x0).2 (iota .tc S8x1696 32 [1] iota_S8x1696_d1_w32)
    (tailWords i) 9#32 (tail arg1 (harg1.unread x0))

/-- The stores of the second loop before trip `k`. -/
def stores (x0 : Vec F S8x100000 .f32) (k : ℕ) : List (View.Piece (Elt F) S8x100000 .f32) :=
  pb_k0_t2 (F := F) Variants.none c none i arg1 harg1 arg2 harg2 (iota .tc S8x4096 32 [1] iota_S8x4096_d1_w32)
    (last c i arg1 harg1 arg2 harg2 x0).1 (last c i arg1 harg1 arg2 harg2 x0).2 (iota .tc S8x1696 32 [1] iota_S8x1696_d1_w32) (tailWords i) 9#32
    (tail arg1 (harg1.unread x0)) k

theorem run_eq (x0 : Vec F S8x100000 .f32) :
    (kernelRun0_A c i arg1 harg1 arg2 harg2 x0).1
      = ⟨Rect.unit (s := S8x100000) ![0, 98304] S8x1696.size inb_S8x100000_S8x1696_0_98304,
          k0_pay1 (iota .tc S8x1696 32 [1] iota_S8x1696_d1_w32) (pick c i arg1 harg1 arg2 harg2 x0)⟩
        :: stores c i arg1 harg1 arg2 harg2 x0 (Scf.trips 0#32 (Scalar.addi 0#32 24#32) 1#32) := by
  have h := tail_bits i
  unfold pick stores last lanes tailWords
  rw [← h]
  unfold kernelRun0_A
  rfl

theorem stores_succ (x0 : Vec F S8x100000 .f32) (k : Fin k0_t2_loop.trips) :
    stores c i arg1 harg1 arg2 harg2 x0 (k.val + 1)
      = ⟨Rect.unit (s := S8x100000) (k0_off2 k) S8x4096.size (k0_off2_inb k),
          select (cmpi .eq (addi (iota .tc S8x4096 32 [1] iota_S8x4096_d1_w32) (broadcast S8x4096 (Scalar.muli (Scf.iv 0#32 1#32 k) 4096#32)))
            (broadcastTo S8x4096 (pick c i arg1 harg1 arg2 harg2 x0) broadcasts_S8x1_S8x4096))
            (broadcast S8x4096 (Scalar.ofBits .f32 0x3F800000#32)) (broadcast S8x4096 (Scalar.ofBits .f32 0x00000000#32))⟩
        :: stores c i arg1 harg1 arg2 harg2 x0 k.val := by
  refine (pb_k0_t2_succ (F := F) Variants.none c none i arg1 harg1 arg2 harg2 _ _ _ _ _ _ _ k).trans ?_
  unfold tripL_k0_t2 trip_k0_t2
  rfl

end Runs

end Cert.KernRun
-- ==== Proof.Noise.lean ====
/-
  The noise as an extended real: a random word becomes a real in [0, 1), and the two logarithms over it are taken of
  positive reals, so the noise is a real number. The reference scales the same real by one and adds nought to it.
-/
module

public import proofs.«01_k».proof.Proof.Hash
public import Idealize.ShloMosaic.Lib.IdealHost
public import Idealize.ShloMosaic.Lib.Pointwise.Reduce
public import Idealize.ShloMosaic.PureOps.Ideal.Laws

@[expose] public section

noncomputable section

namespace Cert.Noise

open Idealize.ShloMosaic Cert.Hash

/-- The exponent field of a random word is that of one: as a number the word is `127 * 2^23` and 23 random bits. -/
theorem word_toNat (n : BitVec 32) : ∃ f : ℕ, f < 2 ^ 23 ∧ (word n).toNat = 2 ^ 23 * 127 + f := by
  refine ⟨(bits n).toNat / 2 ^ 9, ?_, ?_⟩
  · have := (bits n).isLt; omega
  · have h : (bits n).toNat / 2 ^ 9 < 2 ^ 23 := by have := (bits n).isLt; omega
    have hs : (bits n >>> 9#32).toNat = (bits n).toNat >>> 9 := BitVec.toNat_ushiftRight (bits n) 9
    rw [Nat.two_pow_add_eq_or_of_lt h, word, BitVec.toNat_or, Nat.or_comm, hs, Nat.shiftRight_eq_div_pow]
    rfl

/-- A random word denotes one and a fraction. -/
theorem word_val (n : BitVec 32) :
    ∃ u : ℝ, 0 ≤ u ∧ u + 1 / 2 ^ 23 ≤ 1 ∧ Ideal.ofBits .f32 (word n) = ((u + 1 : ℝ) : EReal) := by
  obtain ⟨f, hf, hw⟩ := word_toNat n
  have hneg : (word n).extractLsb' 31 1 = 0#1 := by
    apply BitVec.eq_of_toNat_eq
    rw [BitVec.extractLsb'_toNat, hw, Nat.shiftRight_eq_div_pow]
    show _ = 0
    omega
  have hex : ((word n).extractLsb' 23 8).toNat = 127 := by
    rw [BitVec.extractLsb'_toNat, hw, Nat.shiftRight_eq_div_pow]; omega
  have hfr : ((word n).extractLsb' 0 23).toNat = f := by
    rw [BitVec.extractLsb'_toNat, hw, Nat.shiftRight_eq_div_pow]; omega
  have hf' : (f : ℝ) + 1 ≤ 2 ^ 23 := by exact_mod_cast hf
  refine ⟨(f : ℝ) / 2 ^ 23, by positivity, ?_, ?_⟩
  · rw [← add_div, div_le_one (by positivity)]; exact hf'
  · show Ideal.ieee 8 23 (word n) = _
    simp only [Ideal.ieee, hneg, hex, hfr]
    rw [if_neg (by decide), if_neg (by decide)]
    refine congrArg Real.toEReal ?_
    rw [show (((127 : ℕ) : ℤ) - (2 ^ (8 - 1) - 1) - ((23 : ℕ) : ℤ)) = -23 by norm_num]
    norm_num
    ring

/-- The literal both programs add before each logarithm: a small positive real. -/
def tiny : EReal := Ideal.ofBits .f32 0x2EDBE6FF#32

theorem tiny_val : ∃ e : ℝ, 0 < e ∧ e < 1 / 2 ^ 23 ∧ tiny = (e : EReal) := by
  refine ⟨(14411519 : ℝ) * 2 ^ (-57 : ℤ), by positivity, by norm_num, ?_⟩
  simp [tiny, Ideal.ofBits, Ideal.ieee, -EReal.coe_mul]

/-- The noise made of a word, as the kernel writes it. -/
def gum (b : BitVec 32) : EReal :=
  0 - Ideal.log ((0 - Ideal.log ((Ideal.ofBits .f32 b - 1) + tiny)) + tiny)

theorem log_coe {r : ℝ} (h : 0 < r) : Ideal.log (r : EReal) = ((Real.log r : ℝ) : EReal) := by
  show (if r ≤ 0 then ⊥ else (Real.log r : EReal)) = _
  rw [if_neg (not_le.mpr h)]

/-- The word's fraction, as an extended real. -/
theorem frac_eq (n : BitVec 32) :
    ∃ u : ℝ, 0 ≤ u ∧ u + 1 / 2 ^ 23 ≤ 1 ∧ Ideal.ofBits .f32 (word n) - 1 = (u : EReal) := by
  obtain ⟨u, h0, h1, e⟩ := word_val n
  refine ⟨u, h0, h1, ?_⟩
  rw [e, ← EReal.coe_one, ← EReal.coe_sub, add_sub_cancel_right]

theorem gum_real (n : BitVec 32) : ∃ g : ℝ, gum (word n) = (g : EReal) := by
  obtain ⟨u, h0, h1, e⟩ := frac_eq n
  obtain ⟨t, t0, t1, et⟩ := tiny_val
  have hl : Real.log (u + t) < 0 := Real.log_neg (by linarith) (by linarith)
  refine ⟨0 - Real.log ((0 - Real.log (u + t)) + t), ?_⟩
  rw [gum, e, et, ← EReal.coe_add, log_coe (by linarith), ← EReal.coe_zero, ← EReal.coe_sub, ← EReal.coe_add,
    log_coe (by linarith), ← EReal.coe_sub]

/-- The reference's uniform number: the fraction, scaled by one less nought, raised to nought at least. -/
theorem unif (n : BitVec 32) :
    max (0 : EReal) ((Ideal.ofBits .f32 (word n) - 1) * ((1 : EReal) - 0) + 0) = Ideal.ofBits .f32 (word n) - 1 := by
  obtain ⟨u, h0, h1, e⟩ := frac_eq n
  rw [e, sub_zero, mul_one, add_zero]
  exact max_eq_right (by exact_mod_cast h0)

/-- The reference's noise: it negates where the kernel subtracts from nought. -/
theorem gum_neg (b : BitVec 32) :
    -Ideal.log (-Ideal.log ((Ideal.ofBits .f32 b - 1) + tiny) + tiny) = gum b := by
  rw [gum, zero_sub, zero_sub]

/-- Row `r` of the sum of the argument and the noise. -/
def zrow (x : (⟨2, ![128, 100000]⟩ : Shape).Idx → EReal) (r : Fin 128) (c : Fin 100000) : EReal :=
  x (ix2 r c) + gum (word (count r.val c.val))

theorem zrow_lt_top {x : (⟨2, ![128, 100000]⟩ : Shape).Idx → EReal} {r : Fin 128} {c : Fin 100000} (h : x (ix2 r c) < ⊤) :
    zrow x r c < ⊤ := by
  obtain ⟨g, e⟩ := gum_real (count r.val c.val)
  rw [zrow, e]
  exact EReal.add_lt_top h.ne (EReal.coe_ne_top g)

theorem bot_lt_zrow {x : (⟨2, ![128, 100000]⟩ : Shape).Idx → EReal} {r : Fin 128} {c : Fin 100000} (h : ⊥ < x (ix2 r c)) :
    ⊥ < zrow x r c := by
  obtain ⟨g, e⟩ := gum_real (count r.val c.val)
  rw [zrow, e, EReal.bot_lt_add_iff]
  exact ⟨h, EReal.bot_lt_coe g⟩

end Cert.Noise

end
-- ==== Proof.Scan.lean ====
/-
  How one row is scanned.  A lane keeps the greatest value met so far in its own columns, with the column of the first
  place it was met; at the end the greatest of all lanes is taken, and of the lanes holding it the least column.  The
  lemmas here are about plain functions of the column number.
-/
module

public import Idealize.ShloMosaic.Lib.SortNet.Extract
public import Mathlib.Data.EReal.Basic

@[expose] public section

open Idealize.ShloMosaic

namespace Cert.Scan

/-- What lane `l` holds after `k` chunks of the row `Z`: the greatest value `m` of its columns, and the word `i` of the
first column where it was met; or nothing yet. -/
def Lane (Z : ℕ → EReal) (l k : ℕ) (m : EReal) (i : BitVec 32) : Prop :=
  (∀ t, t < k → Z (t * 4096 + l) ≤ m) ∧
    (m = ⊥ ∨ ∃ t, t < k ∧ i = BitVec.ofNat 32 (t * 4096 + l) ∧ m = Z (t * 4096 + l) ∧
      ∀ t', t' < t → Z (t' * 4096 + l) < m)

theorem Lane.zero (Z : ℕ → EReal) (l : ℕ) (i : BitVec 32) : Lane Z l 0 ⊥ i :=
  ⟨fun _ h => absurd h (Nat.not_lt_zero _), .inl rfl⟩

/-- A strictly greater value is taken, with its column. -/
theorem Lane.take {Z : ℕ → EReal} {l k : ℕ} {m : EReal} {i : BitVec 32} (h : Lane Z l k m i) (hm : m < Z (k * 4096 + l)) :
    Lane Z l (k + 1) (Z (k * 4096 + l)) (BitVec.ofNat 32 (k * 4096 + l)) := by
  refine ⟨fun t ht => ?_, .inr ⟨k, Nat.lt_succ_self k, rfl, rfl, fun t ht => lt_of_le_of_lt (h.1 t ht) hm⟩⟩
  rcases Nat.lt_succ_iff_lt_or_eq.mp ht with ht | rfl
  · exact (h.1 t ht).trans hm.le
  · exact le_rfl

/-- Any other value leaves the lane alone. -/
theorem Lane.keep {Z : ℕ → EReal} {l k : ℕ} {m : EReal} {i : BitVec 32} (h : Lane Z l k m i) (hm : ¬ m < Z (k * 4096 + l)) :
    Lane Z l (k + 1) m i := by
  refine ⟨fun t ht => ?_, h.2.imp_right fun ⟨t, ht, h⟩ => ⟨t, Nat.lt_succ_of_lt ht, h⟩⟩
  rcases Nat.lt_succ_iff_lt_or_eq.mp ht with ht | rfl
  · exact h.1 t ht
  · exact not_lt.mp hm

/-- `K` is the first column holding the row's greatest value, which is not minus infinity. -/
structure First (Z : ℕ → EReal) (K : ℕ) : Prop where
  lt : K < 100000
  le : ∀ c, c < 100000 → Z c ≤ Z K
  before : ∀ c, c < K → Z c < Z K
  bot : ⊥ < Z K

variable {Z : ℕ → EReal} {K : ℕ} {m : Fin 4096 → EReal} {i : Fin 4096 → BitVec 32}

/-- No lane holds more than the row's greatest. -/
theorem Lane.le_first (hK : First Z K) {l : ℕ} (hl : l < 4096) {m : EReal} {i : BitVec 32} (h : Lane Z l 24 m i) : m ≤ Z K := by
  rcases h.2 with h | ⟨t, ht, -, h, -⟩
  · rw [h]; exact bot_le
  · rw [h]; exact hK.le _ (by omega)

/-- A lane holding the greatest has a column no less than the first. -/
theorem Lane.first_le (hK : First Z K) {l : ℕ} (hl : l < 4096) {m : EReal} {i : BitVec 32} (h : Lane Z l 24 m i)
    (hm : m = Z K) : ∃ n, n < 100000 ∧ K ≤ n ∧ i = BitVec.ofNat 32 n := by
  rcases h.2 with h | ⟨t, ht, hi, h, -⟩
  · exact absurd (hm.symm.trans h) hK.bot.ne'
  · refine ⟨t * 4096 + l, by omega, not_lt.mp fun hlt => ?_, hi⟩
    exact absurd (h.symm.trans hm) (hK.before _ hlt).ne

/-- The lane of the first column, when that lies in the chunks, holds the greatest and that column. -/
theorem Lane.at_first (hK : First Z K) (hlt : K < 98304) {m : EReal} {i : BitVec 32} (h : Lane Z (K % 4096) 24 m i) :
    m = Z K ∧ i = BitVec.ofNat 32 K := by
  have hd : K / 4096 * 4096 + K % 4096 = K := by omega
  have hm : m = Z K := le_antisymm (h.le_first hK (by omega)) (by
    have := h.1 (K / 4096) (by omega)
    rwa [hd] at this)
  refine ⟨hm, ?_⟩
  rcases h.2 with h | ⟨t, ht, hi, h, hb⟩
  · exact absurd (hm.symm.trans h) hK.bot.ne'
  · have h1 : ¬ K / 4096 < t := fun hlt => by
      have := hb _ hlt
      rw [hd, hm] at this
      exact lt_irrefl _ this
    have h2 : ¬ t * 4096 + K % 4096 < K := fun hlt => absurd (h.symm.trans hm) (hK.before _ hlt).ne
    have ht : t = K / 4096 := by
      generalize K / 4096 = q at *
      generalize K % 4096 = j at *
      clear hi hb h hm
      omega
    rw [hi, ht, hd]

/-- The greatest of all lanes and of the tail is the row's greatest. -/
theorem greatest (hK : First Z K) (h : ∀ l, Lane Z l.val 24 (m l) (i l)) :
    max ((Finset.univ : Finset (Fin 4096)).fold max ⊥ m)
      ((Finset.univ : Finset (Fin 1696)).fold max ⊥ fun l => Z (98304 + l.val)) = Z K := by
  refine le_antisymm (max_le ?_ ?_) ?_
  · exact (Finset.fold_max_le (c := Z K)).mpr ⟨bot_le, fun l _ => (h l).le_first hK l.isLt⟩
  · exact (Finset.fold_max_le (c := Z K)).mpr ⟨bot_le, fun l _ => hK.le _ (by omega)⟩
  · rcases Nat.lt_or_ge K 98304 with hlt | hge
    · refine le_max_of_le_left ((Finset.le_fold_max (c := Z K)).mpr (.inr ⟨⟨K % 4096, by omega⟩, Finset.mem_univ _, ?_⟩))
      exact ((h ⟨K % 4096, by omega⟩).at_first hK hlt).1.ge
    · refine le_max_of_le_right ((Finset.le_fold_max (c := Z K)).mpr (.inr ⟨⟨K - 98304, by have := hK.lt; omega⟩, Finset.mem_univ _, ?_⟩))
      dsimp only
      rw [Nat.add_sub_cancel' hge]

/-- The signed value of a fold of the signed minimum. -/
theorem toInt_fold {ι : Type} [DecidableEq ι] (g : ι → BitVec 32) (s : Finset ι) (b : BitVec 32) :
    (s.fold IntOp.minsi b g).toInt = s.fold min b.toInt fun j => (g j).toInt := by
  induction s using Finset.induction_on with
  | empty => rw [Finset.fold_empty, Finset.fold_empty]
  | insert a s has ih => rw [Finset.fold_insert has, Finset.fold_insert has, SortNet.toInt_minsi, ih]

theorem toInt_ofNat {n : ℕ} (h : n < 100000) : (BitVec.ofNat 32 n).toInt = n := by
  rw [BitVec.toInt_eq_toNat_of_lt (by rw [BitVec.toNat_ofNat]; omega), BitVec.toNat_ofNat]
  omega

/-- The least candidate column is the first one: `a` and `b` are the candidates of the lanes and of the tail, a large
word standing where the greatest value is not held. -/
theorem least (hK : First Z K) (h : ∀ l, Lane Z l.val 24 (m l) (i l)) {a : Fin 4096 → BitVec 32} {b : Fin 1696 → BitVec 32}
    (ha : ∀ l, a l = if m l = Z K then i l else 1073741824#32)
    (hb : ∀ l, b l = if Z (98304 + l.val) = Z K then BitVec.ofNat 32 (98304 + l.val) else 1073741824#32) :
    IntOp.minsi ((Finset.univ : Finset (Fin 4096)).fold IntOp.minsi 2147483647#32 a)
      ((Finset.univ : Finset (Fin 1696)).fold IntOp.minsi 2147483647#32 b) = BitVec.ofNat 32 K := by
  have hlt := hK.lt
  have e1 : (2147483647#32).toInt = 2147483647 := by decide
  have e2 : (1073741824#32).toInt = 1073741824 := by decide
  apply BitVec.eq_of_toInt_eq
  rw [SortNet.toInt_minsi, toInt_fold, toInt_fold, toInt_ofNat hK.lt, e1]
  have hbl : ∀ l : Fin 1696, 98304 + l.val < 100000 := fun l => by omega
  refine le_antisymm ?_ (le_min ?_ ?_)
  · rcases Nat.lt_or_ge K 98304 with hlt | hge
    · refine min_le_of_left_le ((Finset.fold_min_le (c := (K : ℤ))).mpr (.inr ⟨⟨K % 4096, by omega⟩, Finset.mem_univ _, ?_⟩))
      obtain ⟨h1, h2⟩ := (h ⟨K % 4096, by omega⟩).at_first hK hlt
      rw [ha, if_pos h1, h2, toInt_ofNat hK.lt]
    · refine min_le_of_right_le ((Finset.fold_min_le (c := (K : ℤ))).mpr (.inr ⟨⟨K - 98304, by omega⟩, Finset.mem_univ _, ?_⟩))
      rw [hb]
      dsimp only
      rw [Nat.add_sub_cancel' hge, if_pos rfl, toInt_ofNat hK.lt]
  · refine (Finset.le_fold_min (c := (K : ℤ))).mpr ⟨by omega, fun l _ => ?_⟩
    rw [ha]
    by_cases hm : m l = Z K
    · obtain ⟨n, h1, h2, h3⟩ := (h l).first_le hK l.isLt hm
      rw [if_pos hm, h3, toInt_ofNat h1]
      omega
    · rw [if_neg hm, e2]; omega
  · refine (Finset.le_fold_min (c := (K : ℤ))).mpr ⟨by omega, fun l _ => ?_⟩
    rw [hb]
    by_cases hm : Z (98304 + l.val) = Z K
    · rw [if_pos hm, toInt_ofNat (hbl l)]
      have : ¬ 98304 + l.val < K := fun hl => absurd hm (hK.before _ hl).ne
      omega
    · rw [if_neg hm, e2]; omega

end Cert.Scan
-- ==== Proof.KernLoop.lean ====
/-
  The first loop over extended reals: before trip `k` every lane of every row holds what a scan of that row's columns
  holds.
-/
module

public import proofs.«01_k».proof.Proof.KernRun
public import proofs.«01_k».proof.Proof.Noise
public import proofs.«01_k».proof.Proof.Scan

@[expose] public section

set_option maxRecDepth 20000

noncomputable section

namespace Cert.KernLoop

open Idealize.ShloMosaic Cert.Hash Cert.KernHash Cert.KernelIdeal Cert.KernelIdeal.Gen Cert.KernRun Cert.Noise

/-! ## The noise -/

theorem vnoise_apply {s : Shape} (b : IVec s 32) (j : s.Idx) :
    vnoise (F := Ideal) b j = gum (b j >>> (9#32) ||| 1065353216#32) := by
  have h : vnoise (F := Ideal) b j
      = Ideal.ofBits .f32 0x00000000#32 - Ideal.log ((Ideal.ofBits .f32 0x00000000#32 - Ideal.log ((Ideal.ofBits .f32
          (IntOp.shrui .vector (b j) 9#32 ||| 1065353216#32) - Ideal.ofBits .f32 0x3F800000#32) + tiny)) + tiny) := rfl
  rw [h, Ideal.ofBits_zero_f32, Ideal.ofBits_one_f32]
  rfl

/-- The noise of a word made by hashing a number and its 42. -/
theorem vnoise_hash {s : Shape} (c : IVec s 32) (n : BitVec 32) (j : s.Idx) (h : c j = n + 42#32) :
    vnoise (F := Ideal) (xori (vhash c).1 (vhash c).2) j = gum (word n) := by
  have e := at2_vhash c n j h
  generalize vhash c = p at e ⊢
  have e3 : xori p.1 p.2 j = bits n := by
    unfold bits
    rw [← e]
    rfl
  rw [vnoise_apply, e3]
  rfl

theorem start_eq (q k : ℕ) :
    Scalar.addi (Scalar.muli (BitVec.ofNat 32 q) 800000#32) (Scalar.muli (Scf.iv 0#32 1#32 k) 4096#32)
      = BitVec.ofNat 32 (q * 800000 + k * 4096) := by
  show BitVec.ofNat 32 q * 800000#32 + (0#32 + BitVec.ofNat 32 k * 1#32) * 4096#32 = _
  rw [BitVec.zero_add, BitVec.mul_one, BitVec.ofNat_add, BitVec.ofNat_mul, BitVec.ofNat_mul]

theorem iv_eq (k : ℕ) : Scalar.muli (Scf.iv 0#32 1#32 k) 4096#32 = BitVec.ofNat 32 (k * 4096) := by
  show (0#32 + BitVec.ofNat 32 k * 1#32) * 4096#32 = _
  rw [BitVec.zero_add, BitVec.mul_one, BitVec.ofNat_mul]

/-- The number hashed at row `r` and lane `l` of trip `k`. -/
theorem counter_eq (q : ℕ) (k : Fin k0_t1_loop.trips) (r : Fin 8) (l : Fin 4096) :
    k0_pay2 (Scalar.muli (BitVec.ofNat 32 q) 800000#32) k0_pay38 0#32 1#32 k (ix2 r l)
      = Hash.count (8 * q + r.val) (k.val * 4096 + l.val) + 42#32 := by
  have h : k0_pay2 (Scalar.muli (BitVec.ofNat 32 q) 800000#32) k0_pay38 0#32 1#32 k (ix2 r l)
      = (BitVec.ofNat 32 (0 * 8 + r.val) * 100000#32 + BitVec.ofNat 32 (0 * 4096 + l.val)
          + Scalar.addi (Scalar.muli (BitVec.ofNat 32 q) 800000#32) (Scalar.muli (Scf.iv 0#32 1#32 k) 4096#32)) + 42#32 := rfl
  rw [h, start_eq, ← BitVec.ofNat_mul, ← BitVec.ofNat_add, ← BitVec.ofNat_add]
  unfold Hash.count
  rw [show (0 * 8 + r.val) * 100000 + (0 * 4096 + l.val) + (q * 800000 + k.val * 4096)
    = (8 * q + r.val) * 100000 + (k.val * 4096 + l.val) by omega]

/-- The number hashed at row `r` and lane `l` of the tail. -/
theorem tail_counter_eq (i : grid0.Coords) (r : Fin 8) (l : Fin 1696) :
    k0_pay45 i (ix2 r l) = Hash.count (8 * (i 0).val + r.val) (98304 + l.val) + 42#32 := by
  have h : k0_pay45 i (ix2 r l)
      = (BitVec.ofNat 32 (0 * 8 + r.val) * 100000#32 + BitVec.ofNat 32 (0 * 1696 + l.val)
          + (BitVec.ofNat 32 (i 0).val * 800000#32 + 98304#32)) + 42#32 := rfl
  rw [h, ← BitVec.ofNat_mul, ← BitVec.ofNat_add, ← BitVec.ofNat_mul, ← BitVec.ofNat_add, ← BitVec.ofNat_add]
  unfold Hash.count
  rw [show (0 * 8 + r.val) * 100000 + (0 * 1696 + l.val) + ((i 0).val * 800000 + 98304)
    = (8 * (i 0).val + r.val) * 100000 + (98304 + l.val) by omega]

/-! ## A row of the block -/

/-- Row `r` of block `q`: logit and noise at column `c`. -/
def row (q : ℕ) (x0 : Vec Ideal S8x100000 .f32) (r : Fin 8) (c : ℕ) : EReal :=
  if h : c < 100000 then (x0 (ix2 r ⟨c, h⟩) : EReal) + gum (word (Hash.count (8 * q + r.val) c)) else ⊥

theorem row_of_lt (q : ℕ) (x0 : Vec Ideal S8x100000 .f32) (r : Fin 8) (c : ℕ) (h : c < 100000) :
    row q x0 r c = (x0 (ix2 r ⟨c, h⟩) : EReal) + gum (word (Hash.count (8 * q + r.val) c)) := dif_pos h

theorem off1_eq (k : Fin k0_t1_loop.trips) : k0_off1 k = ![0, k.val * 4096] := by
  have hk : k.val < 24 := Nat.lt_of_lt_of_le k.isLt k0_t1_abs.2.1
  have h : k0_off1 k = ![0, (Scalar.muli (Scf.iv 0#32 1#32 k.val) 4096#32).toNat] := rfl
  rw [h, iv_eq, BitVec.toNat_ofNat, Nat.mod_eq_of_lt (by omega)]

theorem off2_eq (k : Fin k0_t2_loop.trips) : k0_off2 k = ![0, k.val * 4096] := by
  have hk : k.val < 24 := Nat.lt_of_lt_of_le k.isLt k0_t2_abs.2.1
  have h : k0_off2 k = ![0, (Scalar.muli (Scf.iv 0#32 1#32 k.val) 4096#32).toNat] := rfl
  rw [h, iv_eq, BitVec.toNat_ofNat, Nat.mod_eq_of_lt (by omega)]

section Block

variable (c : Dev nD) (i : grid0.Coords) (arg1 : Memref sig .tc .vmem S8x100000 .f32) (harg1 : arg1.IsWhole)
  (arg2 : Memref sig .tc .vmem S8x100000 .f32) (harg2 : arg2.IsWhole) (x0 : Vec Ideal S8x100000 .f32)

theorem chunk_apply (k : Fin k0_t1_loop.trips) (r : Fin 8) (l : Fin 4096) (h : k.val * 4096 + l.val < 100000) :
    chunk (F := Ideal) arg1 (harg1.unread x0) k (ix2 r l) = x0 (ix2 r ⟨k.val * 4096 + l.val, h⟩) := by
  unfold chunk
  rw [View.readAt_apply, harg1.read_unread]
  refine congrArg x0 (funext fun a => Fin.ext ?_)
  show k0_off1 k a + 1 * ((ix2 r l : S8x4096.Idx) a).val = _
  rw [off1_eq]
  fin_cases a
  · show 0 + 1 * r.val = r.val; omega
  · show k.val * 4096 + 1 * l.val = k.val * 4096 + l.val; omega

theorem tail_apply (r : Fin 8) (l : Fin 1696) (h : 98304 + l.val < 100000) :
    tail (F := Ideal) arg1 (harg1.unread x0) (ix2 r l) = x0 (ix2 r ⟨98304 + l.val, h⟩) := by
  unfold tail
  rw [View.readAt_apply, harg1.read_unread]
  refine congrArg x0 (funext fun a => Fin.ext ?_)
  show (![0, 98304] : Fin 2 → ℕ) a + 1 * ((ix2 r l : S8x1696.Idx) a).val = _
  fin_cases a
  · show 0 + 1 * r.val = r.val; omega
  · show 98304 + 1 * l.val = 98304 + l.val; omega

/-- What a trip adds up at a lane. -/
theorem sum_apply (k : Fin k0_t1_loop.trips) (r : Fin 8) (l : Fin 4096) :
    (chunk (F := Ideal) arg1 (harg1.unread x0) k (ix2 r l) : EReal)
        + vnoise (F := Ideal) (words (Scalar.muli (BitVec.ofNat 32 (i 0).val) 800000#32) k) (ix2 r l)
      = row (i 0).val x0 r (k.val * 4096 + l.val) := by
  have hk : k.val < 24 := Nat.lt_of_lt_of_le k.isLt k0_t1_abs.2.1
  have h : k.val * 4096 + l.val < 100000 := by omega
  rw [row_of_lt _ _ _ _ h, chunk_apply arg1 harg1 x0 k r l h]
  unfold words
  rw [vnoise_hash _ _ _ (counter_eq (i 0).val k r l)]

theorem tail_sum_apply (r : Fin 8) (l : Fin 1696) :
    (tail (F := Ideal) arg1 (harg1.unread x0) (ix2 r l) : EReal) + vnoise (F := Ideal) (tailWords i) (ix2 r l)
      = row (i 0).val x0 r (98304 + l.val) := by
  have h : 98304 + l.val < 100000 := by omega
  rw [row_of_lt _ _ _ _ h, tail_apply arg1 harg1 x0 r l h]
  unfold tailWords
  rw [vnoise_hash _ _ _ (tail_counter_eq i r l)]

/-! ## The loop -/

theorem pay43_apply (m n x : FVec Ideal S8x4096 .f32) (j : S8x4096.Idx) :
    k0_pay43 m n x j = if (m j : EReal) < (x j : EReal) + n j then (x j : EReal) + n j else m j := by
  have h : k0_pay43 m n x j = if Ideal.cmp .ogt ((x j : EReal) + n j) (m j) = 1#1 then (x j : EReal) + n j else m j := rfl
  rw [h]
  unfold Ideal.cmp
  by_cases hlt : (m j : EReal) < (x j : EReal) + n j
  · rw [if_pos hlt, if_pos]; dsimp only; rw [decide_eq_true hlt]; rfl
  · rw [if_neg hlt, if_neg]; dsimp only; rw [decide_eq_false hlt]; decide

theorem pay44_apply (m : FVec Ideal S8x4096 .f32) (a : IVec S8x4096 32) (s : BitVec 32) (n x : FVec Ideal S8x4096 .f32)
    (r : Fin 8) (l : Fin 4096) :
    k0_pay44 m a s n x (ix2 r l) = if (m (ix2 r l) : EReal) < (x (ix2 r l) : EReal) + n (ix2 r l)
      then BitVec.ofNat 32 (0 * 4096 + l.val) + s else a (ix2 r l) := by
  have h : k0_pay44 m a s n x (ix2 r l) = if Ideal.cmp .ogt ((x (ix2 r l) : EReal) + n (ix2 r l)) (m (ix2 r l)) = 1#1
      then BitVec.ofNat 32 (0 * 4096 + l.val) + s else a (ix2 r l) := rfl
  rw [h]
  unfold Ideal.cmp
  by_cases hlt : (m (ix2 r l) : EReal) < (x (ix2 r l) : EReal) + n (ix2 r l)
  · rw [if_pos hlt, if_pos]; dsimp only; rw [decide_eq_true hlt]; rfl
  · rw [if_neg hlt, if_neg]; dsimp only; rw [decide_eq_false hlt]; decide

theorem bot_lit : Ideal.ofBits .f32 0xFF800000#32 = ⊥ := by simp [Ideal.ofBits, Ideal.ieee]

theorem lanes_zero : lanes (F := Ideal) c i arg1 harg1 arg2 harg2 x0 0 = (k0_pay39, k0_pay40) := rfl

/-- The lanes before trip `k`. -/
theorem lanes_lane (r : Fin 8) (l : Fin 4096) : ∀ k : ℕ, k ≤ k0_t1_loop.trips →
    Scan.Lane (row (i 0).val x0 r) l.val k ((lanes (F := Ideal) c i arg1 harg1 arg2 harg2 x0 k).1 (ix2 r l))
      ((lanes (F := Ideal) c i arg1 harg1 arg2 harg2 x0 k).2 (ix2 r l)) := by
  intro k
  induction k with
  | zero =>
    intro _
    rw [lanes_zero]
    have h : (k0_pay39 (F := Ideal) (ix2 r l) : EReal) = Ideal.ofBits .f32 0xFF800000#32 := rfl
    show Scan.Lane _ _ _ (k0_pay39 (F := Ideal) (ix2 r l)) _
    rw [h, bot_lit]
    exact Scan.Lane.zero _ _ _
  | succ k ih =>
    intro hk
    have h := lanes_succ (F := Ideal) c i arg1 harg1 arg2 harg2 x0 ⟨k, hk⟩
    have hs := sum_apply i arg1 harg1 x0 ⟨k, hk⟩ r l
    have ih := ih (Nat.le_of_succ_le hk)
    dsimp only at h hs
    rw [h]
    dsimp only
    rw [pay43_apply, pay44_apply, hs]
    split
    · next hlt =>
      have e : BitVec.ofNat 32 (0 * 4096 + l.val) + Scalar.muli (Scf.iv 0#32 1#32 k) 4096#32
          = BitVec.ofNat 32 (k * 4096 + l.val) := by
        rw [iv_eq, ← BitVec.ofNat_add, Nat.zero_mul, Nat.zero_add, Nat.add_comm]
      rw [e]
      exact ih.take hlt
    · next hlt => exact ih.keep hlt

theorem trips_eq : Scf.trips 0#32 (Scalar.addi 0#32 24#32) 1#32 = 24 := by decide

theorem last_lane (r : Fin 8) (l : Fin 4096) :
    Scan.Lane (row (i 0).val x0 r) l.val 24 ((last (F := Ideal) c i arg1 harg1 arg2 harg2 x0).1 (ix2 r l))
      ((last (F := Ideal) c i arg1 harg1 arg2 harg2 x0).2 (ix2 r l)) := by
  have h := lanes_lane c i arg1 harg1 arg2 harg2 x0 r l _ le_rfl
  have e : k0_t1_loop.trips = 24 := trips_eq
  unfold last
  rw [trips_eq]
  rw [e] at h
  exact h

end Block

end Cert.KernLoop
-- ==== Proof.KernPick.lean ====
/-
  The column a block picks for a row: the first of the row's greatest sums of logit and noise.
-/
module

public import proofs.«01_k».proof.Proof.KernLoop
public import Idealize.ShloMosaic.Lib.Pointwise.Reduce
public import Idealize.ShloMosaic.Lib.Pipeline.Value

@[expose] public section

set_option maxRecDepth 20000

noncomputable section

namespace Cert.KernPick

open Idealize.ShloMosaic Cert.KernHash Cert.KernelIdeal Cert.KernelIdeal.Gen Cert.KernRun Cert.KernLoop

/-! ## The operations, for every reading of the floats -/

section Ops

variable {F : FTy → Type} [FloatOps F]

/-- A row's greatest, as a column of one. -/
abbrev top {s : Shape} (a : List (Fin s.rank)) (h : s.Reduces a S8) (v : FVec F s .f32) : FVec F S8x1 .f32 :=
  shapeCast S8x1 (multiReduction .maximumf a S8 v 0xFF800000#32 h (.inl rfl) rfl) shapeCasts_S8_S8x1

/-- A row's least word, as a column of one. -/
abbrev low {s : Shape} (a : List (Fin s.rank)) (h : s.Reduces a S8) (v : IVec s 32) : IVec S8x1 32 :=
  shapeCast S8x1 (multiReductionI .minsi a S8 v 2147483647#32 h rfl) shapeCasts_S8_S8x1

/-- The candidates: the column where a vector holds the greatest, a large word elsewhere. -/
abbrev cand {s : Shape} (h : S8x1.Broadcasts s) (v : FVec F s .f32) (m : FVec F S8x1 .f32) (a : IVec s 32) : IVec s 32 :=
  select (cmpf .oeq v (broadcastTo s m h)) a (broadcast s 1073741824#32)

theorem pay77_eq (m : FVec F S8x4096 .f32) (a : IVec S8x4096 32) (w v : IVec S8x1696 32) (x : FVec F S8x1696 .f32) :
    k0_pay77 m a w v 9#32 x
      = minsi (low [1] reduces_S8x4096_S8 (cand broadcasts_S8x1_S8x4096 m
            (maximumf (top [1] reduces_S8x4096_S8 m) (top [1] reduces_S8x1696_S8 (addf x (vnoise v)))) a))
          (low [1] reduces_S8x1696_S8 (cand broadcasts_S8x1_S8x1696 (addf x (vnoise v))
            (maximumf (top [1] reduces_S8x4096_S8 m) (top [1] reduces_S8x1696_S8 (addf x (vnoise v))))
            (addi w (broadcast S8x1696 98304#32)))) := rfl

end Ops

/-! ## At a row -/

theorem col_apply {α : Type} (v : S8.Idx → α) (r : Fin 8) : shapeCast S8x1 v shapeCasts_S8_S8x1 (ix2 r 0) = v (ix1 r) := by
  refine shapeCast_apply v shapeCasts_S8_S8x1 (ix2 r 0) (ix1 r) ?_
  revert r; decide

variable {n : ℕ} (h : (⟨2, ![8, n]⟩ : Shape).Reduces [1] S8)

theorem top_apply (v : FVec Ideal ⟨2, ![8, n]⟩ .f32) (r : Fin 8) :
    top [1] h v (ix2 r 0) = (Finset.univ : Finset (Fin n)).fold max (⊥ : EReal) fun l => v (ix2 r l) := by
  refine (col_apply _ r).trans ((multiReduction_maximumf_eq_fold v 0xFF800000#32 h (.inl rfl) rfl (ix1 r)).trans ?_)
  rw [Shape.Reduces.fold_fiber_r2_a1]
  show (Finset.univ : Finset (Fin n)).fold max (Ideal.ofBits .f32 0xFF800000#32) _ = _
  rw [bot_lit]; rfl

theorem low_apply (v : IVec ⟨2, ![8, n]⟩ 32) (r : Fin 8) :
    low [1] h v (ix2 r 0) = (Finset.univ : Finset (Fin n)).fold IntOp.minsi 2147483647#32 fun l => v (ix2 r l) := by
  refine (col_apply _ r).trans ((multiReductionI_eq_fold .minsi v 2147483647#32 h rfl (ix1 r)).trans ?_)
  rw [Shape.Reduces.fold_fiber_r2_a1]
  rfl

theorem spread_apply {α : Type} (hn : n ≠ 1) (hb : S8x1.Broadcasts ⟨2, ![8, n]⟩) (v : S8x1.Idx → α) (r : Fin 8) (l : Fin n) :
    broadcastTo ⟨2, ![8, n]⟩ v hb (ix2 r l) = v (ix2 r 0) := by
  refine broadcastTo_apply v hb (ix2 r l) (ix2 r 0) fun a => ?_
  fin_cases a
  · rfl
  · rfl

theorem cand_apply (hn : n ≠ 1) (hb : S8x1.Broadcasts ⟨2, ![8, n]⟩) (v : FVec Ideal ⟨2, ![8, n]⟩ .f32)
    (m : FVec Ideal S8x1 .f32) (a : IVec ⟨2, ![8, n]⟩ 32) (r : Fin 8) (l : Fin n) :
    cand hb v m a (ix2 r l)
      = if (v (ix2 r l) : EReal) = (m (ix2 r 0) : EReal) then a (ix2 r l) else 1073741824#32 := by
  have e : cand hb v m a (ix2 r l) = if Ideal.cmp .oeq (v (ix2 r l)) (broadcastTo ⟨2, ![8, n]⟩ m hb (ix2 r l)) = 1#1
      then a (ix2 r l) else 1073741824#32 := rfl
  rw [e, spread_apply hn hb m r l]
  unfold Ideal.cmp
  by_cases hv : (v (ix2 r l) : EReal) = (m (ix2 r 0) : EReal)
  · rw [if_pos hv, if_pos]; dsimp only; rw [decide_eq_true hv]; rfl
  · rw [if_neg hv, if_neg]; dsimp only; rw [decide_eq_false hv]; decide

section Block

variable (c : Dev nD) (i : grid0.Coords) (arg1 : Memref sig .tc .vmem S8x100000 .f32) (harg1 : arg1.IsWhole)
  (arg2 : Memref sig .tc .vmem S8x100000 .f32) (harg2 : arg2.IsWhole) (x0 : Vec Ideal S8x100000 .f32)

theorem tailIdx_apply (r : Fin 8) (l : Fin 1696) :
    addi (iota .tc S8x1696 32 [1] iota_S8x1696_d1_w32) (broadcast S8x1696 98304#32) (ix2 r l)
      = BitVec.ofNat 32 (98304 + l.val) := by
  show BitVec.ofNat 32 (0 * 1696 + l.val) + BitVec.ofNat 32 98304 = _
  rw [← BitVec.ofNat_add, Nat.zero_mul, Nat.zero_add, Nat.add_comm]

/-- The word a block picks for row `r` is the first column of the row's greatest. -/
theorem pick_apply (r : Fin 8) (K : ℕ) (hK : Scan.First (row (i 0).val x0 r) K) :
    pick (F := Ideal) c i arg1 harg1 arg2 harg2 x0 (ix2 r 0) = BitVec.ofNat 32 K := by
  have hl := last_lane c i arg1 harg1 arg2 harg2 x0 r
  have ht : ∀ l : Fin 1696,
      ((addf (tail (F := Ideal) arg1 (harg1.unread x0)) (vnoise (tailWords i)) : FVec Ideal S8x1696 .f32) (ix2 r l) : EReal)
      = row (i 0).val x0 r (98304 + l.val) := tail_sum_apply i arg1 harg1 x0 r
  unfold pick
  rw [pay77_eq]
  generalize (last (F := Ideal) c i arg1 harg1 arg2 harg2 x0) = L at hl ⊢
  obtain ⟨m, a⟩ := L
  dsimp only at hl ⊢
  generalize (addf (tail (F := Ideal) arg1 (harg1.unread x0)) (vnoise (tailWords i)) : FVec Ideal S8x1696 .f32) = t at ht ⊢
  have hg : ((maximumf (top [1] reduces_S8x4096_S8 m) (top [1] reduces_S8x1696_S8 t) : FVec Ideal S8x1 .f32) (ix2 r 0) : EReal)
      = row (i 0).val x0 r K := by
    show max (top [1] reduces_S8x4096_S8 m (ix2 r 0) : EReal) (top [1] reduces_S8x1696_S8 t (ix2 r 0)) = _
    rw [top_apply, top_apply]
    simp only [ht]
    exact Scan.greatest hK hl
  generalize (maximumf (top [1] reduces_S8x4096_S8 m) (top [1] reduces_S8x1696_S8 t) : FVec Ideal S8x1 .f32) = M at hg ⊢
  show IntOp.minsi (low [1] reduces_S8x4096_S8 (cand broadcasts_S8x1_S8x4096 m M a) (ix2 r 0))
    (low [1] reduces_S8x1696_S8 (cand broadcasts_S8x1_S8x1696 t M _) (ix2 r 0)) = _
  rw [low_apply, low_apply]
  refine Scan.least hK hl (fun l => ?_) (fun l => ?_)
  · rw [cand_apply (by decide), hg]
  · rw [cand_apply (by decide), hg, ht, tailIdx_apply]

end Block

end Cert.KernPick
-- ==== Proof.KernOut.lean ====
/-
  The block a point writes: one at the picked column of each row, nought elsewhere.
-/
module

public import proofs.«01_k».proof.Proof.KernPick
public import Idealize.ShloMosaic.Lib.WritesUnit

@[expose] public section

set_option maxRecDepth 20000

noncomputable section

namespace Cert.KernOut

open Idealize.ShloMosaic Cert.KernelIdeal Cert.KernelIdeal.Gen Cert.KernRun Cert.KernLoop Cert.KernPick

/-- One at column `K`, nought elsewhere. -/
def hot (K c : ℕ) : EReal := if c = K then 1 else 0

/-- Two column numbers are one word only when equal. -/
theorem ofNat_inj {a b : ℕ} (ha : a < 100000) (hb : b < 100000) : BitVec.ofNat 32 a = BitVec.ofNat 32 b ↔ a = b := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

/-- A store's payload at an index, once its two words are known. -/
theorem select_hot {s : Shape} (x y : IVec s 32) (j : s.Idx) (a K : ℕ) (ha : a < 100000) (hK : K < 100000)
    (hx : x j = BitVec.ofNat 32 a) (hy : y j = BitVec.ofNat 32 K) :
    (select (cmpi .eq x y) (broadcast s (Scalar.ofBits .f32 0x3F800000#32)) (broadcast s (Scalar.ofBits .f32 0x00000000#32))
      : FVec Ideal s .f32) j = hot K a := by
  have h : (select (cmpi .eq x y) (broadcast s (Scalar.ofBits .f32 0x3F800000#32))
        (broadcast s (Scalar.ofBits .f32 0x00000000#32)) : FVec Ideal s .f32) j
      = if BitVec.ofBool (x j == y j) = 1#1 then Ideal.ofBits .f32 0x3F800000#32 else Ideal.ofBits .f32 0x00000000#32 := rfl
  rw [h, hx, hy, Ideal.ofBits_zero_f32, Ideal.ofBits_one_f32]
  unfold hot
  by_cases e : a = K
  · rw [if_pos e, if_pos]; rw [e, beq_self_eq_true]; rfl
  · rw [if_neg e, if_neg]
    rw [beq_eq_false_iff_ne.mpr fun e' => e ((ofNat_inj ha hK).mp e')]
    decide

section Block

variable (c : Dev nD) (i : grid0.Coords) (arg1 : Memref sig .tc .vmem S8x100000 .f32) (harg1 : arg1.IsWhole)
  (arg2 : Memref sig .tc .vmem S8x100000 .f32) (harg2 : arg2.IsWhole) (x0 : Vec Ideal S8x100000 .f32)
  (r : Fin 8) (K : ℕ) (hK : Scan.First (row (i 0).val x0 r) K)

include hK

/-- The stores of the second loop before trip `k`, at the columns they cover. -/
theorem stores_apply {sg : RefSig} {κ : Kind} {sp : Space} (v : View sg κ sp S8x100000 .f32)
    (f : v.ty.Contents (Elt Ideal)) : ∀ k : ℕ, k ≤ k0_t2_loop.trips → ∀ col : Fin 100000, col.val < k * 4096 →
      v.read (Elt Ideal) (v.writes (Elt Ideal) f (stores (F := Ideal) c i arg1 harg1 arg2 harg2 x0 k)) (ix2 r col) = hot K col.val := by
  intro k
  induction k with
  | zero => intro _ col h; omega
  | succ k ih =>
    intro hk col hcol
    have hk24 : k < 24 := Nat.lt_of_lt_of_le hk k0_t2_abs.2.1
    rw [stores_succ (F := Ideal) c i arg1 harg1 arg2 harg2 x0 ⟨k, hk⟩]
    rcases Nat.lt_or_ge col.val (k * 4096) with hlt | hge
    · rw [View.read_writes_cons_unit_of_not_mem v f _ _ _ _ (off2_eq ⟨k, hk⟩) (1 : Fin 2) (.inl hlt)]
      exact ih (Nat.le_of_succ_le hk) col hlt
    · have hl : col.val - k * 4096 < 4096 := by omega
      have hx : ∀ a : Fin 2, ((ix2 r col : S8x100000.Idx) a).val
          = (![0, k * 4096] : Fin 2 → ℕ) a + ((ix2 r ⟨col.val - k * 4096, hl⟩ : S8x4096.Idx) a).val :=
        Fin.forall_fin_two.mpr ⟨(Nat.zero_add _).symm, (Nat.add_sub_cancel' hge).symm⟩
      refine (View.read_writes_cons_unit_of_mem v f (size := S8x4096.size) (k0_off2_inb ⟨k, hk⟩) _ _ (ix2 r col)
        (ix2 r ⟨col.val - k * 4096, hl⟩ : S8x4096.Idx) (off2_eq ⟨k, hk⟩) hx).trans ?_
      refine select_hot _ _ _ col.val K col.isLt hK.lt ?_ ?_
      · show BitVec.ofNat 32 (0 * 4096 + (col.val - k * 4096)) + Scalar.muli (Scf.iv 0#32 1#32 k) 4096#32 = _
        rw [iv_eq, ← BitVec.ofNat_add, Nat.zero_mul, Nat.zero_add, Nat.sub_add_cancel hge]
      · exact (spread_apply (by decide) broadcasts_S8x1_S8x4096 _ r _).trans (pick_apply c i arg1 harg1 arg2 harg2 x0 r K hK)

theorem out_apply (col : Fin 100000) :
    out0_A_1 (F := Ideal) c i arg1 harg1 arg2 harg2 x0 (ix2 r col) = hot K col.val := by
  unfold out0_A_1
  rw [run_eq, trips_eq]
  rcases Nat.lt_or_ge col.val 98304 with hlt | hge
  · rw [View.read_writes_cons_unit_of_not_mem VO0_1 _ _ _ _ _ rfl (1 : Fin 2) (.inl hlt)]
    exact stores_apply c i arg1 harg1 arg2 harg2 x0 r K hK VO0_1 _ 24 (le_of_eq trips_eq.symm) col hlt
  · have hl : col.val - 98304 < 1696 := by omega
    have hx : ∀ a : Fin 2, ((ix2 r col : S8x100000.Idx) a).val
        = (![0, 98304] : Fin 2 → ℕ) a + ((ix2 r ⟨col.val - 98304, hl⟩ : S8x1696.Idx) a).val :=
      Fin.forall_fin_two.mpr ⟨(Nat.zero_add _).symm, (Nat.add_sub_cancel' hge).symm⟩
    refine (View.read_writes_cons_unit_of_mem VO0_1 _ (size := S8x1696.size) inb_S8x100000_S8x1696_0_98304 _ _ (ix2 r col)
      (ix2 r ⟨col.val - 98304, hl⟩ : S8x1696.Idx) rfl hx).trans ?_
    refine select_hot _ _ _ col.val K col.isLt hK.lt ?_ ?_
    · rw [tailIdx_apply]
      dsimp only
      rw [Nat.add_sub_cancel' hge]
    · exact (spread_apply (by decide) broadcasts_S8x1_S8x1696 _ r _).trans (pick_apply c i arg1 harg1 arg2 harg2 x0 r K hK)

end Block

end Cert.KernOut
-- ==== Proof.First.lean ====
/-
  The place of a row's greatest value, the first of several: it is unique, strictly increasing functions keep it, a
  fold that keeps the better of two pairs finds it, and the softmax of a row with a finite greatest value is such a
  strictly increasing function with real values.
-/
module

public import Idealize.ShloMosaic.PureOps.Ideal.Laws
public import Mathlib.Data.Finset.Fold
public import Mathlib.Order.WellFounded

@[expose] public section

noncomputable section

namespace Cert.First

open Idealize.ShloMosaic

/-- `k` is the first place of the greatest value of `z`. -/
def IsFirst {n : ℕ} {α : Type} [LinearOrder α] (z : Fin n → α) (k : Fin n) : Prop :=
  (∀ j, z j ≤ z k) ∧ ∀ j, j < k → z j < z k

section

variable {n : ℕ} {α β : Type} [LinearOrder α] [LinearOrder β]

theorem exists_first [NeZero n] (z : Fin n → α) : ∃ k, IsFirst z k := by
  obtain ⟨m, hm⟩ := Finite.exists_max z
  have hne : {k | ∀ j, z j ≤ z k}.Nonempty := ⟨m, hm⟩
  refine ⟨wellFounded_lt.min _ hne, wellFounded_lt.min_mem _ hne, fun j hj => ?_⟩
  have hn : j ∉ {k | ∀ j, z j ≤ z k} := fun h => wellFounded_lt.not_lt_min _ h hj
  have hn' : ¬ ∀ i, z i ≤ z j := hn
  push Not at hn'
  obtain ⟨i, hi⟩ := hn'
  exact lt_of_lt_of_le hi (wellFounded_lt.min_mem _ hne i)

theorem IsFirst.unique {z : Fin n → α} {k k' : Fin n} (h : IsFirst z k) (h' : IsFirst z k') : k = k' := by
  rcases lt_trichotomy k k' with hl | he | hl
  · exact absurd (h.1 k') (not_le.mpr (h'.2 k hl))
  · exact he
  · exact absurd (h'.1 k) (not_le.mpr (h.2 k' hl))

theorem IsFirst.of_iff {a : Fin n → α} {b : Fin n → β} {k : Fin n} (h : ∀ i j, a i ≤ a j ↔ b i ≤ b j)
    (ha : IsFirst a k) : IsFirst b k :=
  ⟨fun j => (h j k).1 (ha.1 j), fun j hj => not_le.1 fun hb => absurd ((h k j).2 hb) (not_le.2 (ha.2 j hj))⟩

end

/-- A fold by an operation that answers the better of its two arguments answers the best of all. -/
theorem foldl_best {γ : Type} (le : γ → γ → Prop) (trans : ∀ a b c, le a b → le b c → le a c) (refl : ∀ a, le a a)
    (op : γ → γ → γ) (hop : ∀ a b, (op a b = a ∨ op a b = b) ∧ le a (op a b) ∧ le b (op a b)) (l : List γ) :
    ∀ a, (l.foldl op a = a ∨ l.foldl op a ∈ l) ∧ le a (l.foldl op a) ∧ ∀ q ∈ l, le q (l.foldl op a) := by
  induction l with
  | nil => exact fun a => ⟨.inl rfl, refl a, fun q h => absurd h List.not_mem_nil⟩
  | cons b l ih =>
    intro a
    obtain ⟨h1, h2, h3⟩ := ih (op a b)
    obtain ⟨o1, o2, o3⟩ := hop a b
    rw [List.foldl_cons]
    refine ⟨?_, trans _ _ _ o2 h2, fun q hq => ?_⟩
    · rcases h1 with h1 | h1
      · rcases o1 with o1 | o1
        · exact .inl (h1.trans o1)
        · exact .inr (List.mem_cons.2 (.inl (h1.trans o1)))
      · exact .inr (List.mem_cons.2 (.inr h1))
    · rcases List.mem_cons.1 hq with rfl | hq
      · exact trans _ _ _ o3 h2
      · exact h3 q hq

/-- The exponential of a difference with a real, as a real: nought at minus infinity. -/
theorem exp_sub (M : ℝ) (y : EReal) (h : y < ⊤) : ∃ w : ℝ, 0 ≤ w ∧ Ideal.exp (y - (M : EReal)) = (w : EReal)
    ∧ (y = ⊥ ∧ w = 0 ∨ ∃ a : ℝ, y = (a : EReal) ∧ w = Real.exp (a - M)) := by
  induction y with
  | bot =>
    refine ⟨0, le_refl _, ?_, .inl ⟨rfl, rfl⟩⟩
    rw [EReal.bot_sub]; rfl
  | top => exact absurd h (lt_irrefl _)
  | coe a =>
    refine ⟨Real.exp (a - M), (Real.exp_pos _).le, ?_, .inr ⟨a, rfl, rfl⟩⟩
    rw [← EReal.coe_sub]; rfl

/-- The softmax of a row whose values are below plus infinity and one of them above minus infinity, shifted by a real:
    its values are reals, ordered as the row's. -/
theorem soft {n : ℕ} (y : Fin n → EReal) (hlt : ∀ j, y j < ⊤) (k : Fin n) (hk : ⊥ < y k) (M : ℝ) :
    ∃ p : Fin n → ℝ,
      (∀ j, Ideal.div (Ideal.exp (y j - (M : EReal))) (0 + ∑ i, Ideal.exp (y i - (M : EReal))) = (p j : EReal))
      ∧ ∀ i j, p i ≤ p j ↔ y i ≤ y j := by
  choose w w0 we wc using fun j => exp_sub M (y j) (hlt j)
  have hpos : 0 < w k := by
    rcases wc k with ⟨h, -⟩ | ⟨a, -, h⟩
    · exact absurd hk (h ▸ lt_irrefl _)
    · exact h ▸ Real.exp_pos _
  have hS : 0 < ∑ i, w i := Finset.sum_pos' (fun i _ => w0 i) ⟨k, Finset.mem_univ k, hpos⟩
  have hsum : (0 : EReal) + ∑ i, Ideal.exp (y i - (M : EReal)) = ((∑ i, w i : ℝ) : EReal) := by
    rw [zero_add, Finset.sum_congr rfl fun i _ => we i]
    exact (map_sum (⟨⟨Real.toEReal, rfl⟩, EReal.coe_add⟩ : ℝ →+ EReal) w Finset.univ).symm
  refine ⟨fun j => w j * (1 / ∑ i, w i), fun j => ?_, fun i j => ?_⟩
  · rw [hsum, Ideal.div_coe hS.ne', we, ← EReal.coe_mul]
  · have hw : w i ≤ w j ↔ y i ≤ y j := by
      rcases wc i with ⟨hi, ei⟩ | ⟨a, hi, ei⟩
      · rw [hi, ei]; exact ⟨fun _ => bot_le, fun _ => w0 j⟩
      · rcases wc j with ⟨hj, ej⟩ | ⟨b, hj, ej⟩
        · rw [hi, hj, ei, ej]
          exact ⟨fun h => absurd (Real.exp_pos _) (not_lt.2 h), fun h => absurd h (not_le.2 (EReal.bot_lt_coe a))⟩
        · rw [hi, hj, ei, ej, Real.exp_le_exp, EReal.coe_le_coe_iff, sub_le_sub_iff_right]
    rw [← hw]
    exact mul_le_mul_iff_left₀ (one_div_pos.2 hS)

/-- Taking a real away and adding it again changes nothing. -/
theorem sub_add_real (x : EReal) (p : ℝ) (hx : ∃ a : ℝ, x = (a : EReal)) : x - (p : EReal) + (p : EReal) = x := by
  obtain ⟨a, rfl⟩ := hx
  rw [← EReal.coe_sub, ← EReal.coe_add, sub_add_cancel]

/-- Half of an extended real, as the division by two: it keeps the order. -/
theorem half_le (x y : EReal) : Ideal.div x ((2 : ℝ) : EReal) ≤ Ideal.div y ((2 : ℝ) : EReal) ↔ x ≤ y := by
  have h : ∀ x : EReal, Ideal.div x ((2 : ℝ) : EReal) = x * ((1 / 2 : ℝ) : EReal) := Ideal.div_coe (by norm_num)
  rw [h, h]
  induction x with
  | bot => simp [EReal.bot_mul_coe_of_pos]
  | top =>
    rw [EReal.top_mul_coe_of_pos (by norm_num)]
    induction y with
    | bot => rw [EReal.bot_mul_coe_of_pos (by norm_num)]
    | top => rw [EReal.top_mul_coe_of_pos (by norm_num)]
    | coe b => rw [← EReal.coe_mul]; simp only [top_le_iff, EReal.coe_ne_top]
  | coe a =>
    induction y with
    | bot => rw [EReal.bot_mul_coe_of_pos (by norm_num), ← EReal.coe_mul]; simp only [le_bot_iff, EReal.coe_ne_bot]
    | top => rw [EReal.top_mul_coe_of_pos (by norm_num)]; exact ⟨fun _ => le_top, fun _ => le_top⟩
    | coe b =>
      rw [← EReal.coe_mul, ← EReal.coe_mul, EReal.coe_le_coe_iff, EReal.coe_le_coe_iff]
      exact mul_le_mul_iff_left₀ (by norm_num)

/-- The greatest of a family, folded from minus infinity: at least each, and below what each is below. -/
theorem le_foldMax {n : ℕ} (z : Fin n → EReal) (k : Fin n) : z k ≤ (Finset.univ : Finset (Fin n)).fold max ⊥ z :=
  (Finset.le_fold_max _).2 (.inr ⟨k, Finset.mem_univ k, le_refl _⟩)

theorem foldMax_lt {n : ℕ} (z : Fin n → EReal) {b : EReal} (hb : ⊥ < b) (h : ∀ k, z k < b) :
    (Finset.univ : Finset (Fin n)).fold max ⊥ z < b :=
  (Finset.fold_max_lt _).2 ⟨hb, fun k _ => h k⟩

theorem foldMax_first {n : ℕ} (z : Fin n → EReal) (k : Fin n) (h : ∀ j, z j ≤ z k) :
    (Finset.univ : Finset (Fin n)).fold max ⊥ z = z k :=
  le_antisymm ((Finset.fold_max_le _).2 ⟨bot_le, fun j _ => h j⟩) (le_foldMax z k)

end Cert.First

end
-- ==== Proof.KernValue.lean ====
/-
  The kernel's result array: one at the first place of each row's greatest sum of argument and noise, nought elsewhere.
-/
module

public import proofs.«01_k».proof.Proof.KernOut
public import proofs.«01_k».proof.Proof.First
public import proofs.«01_k».proof.Proof.Gen.KernelIdeal.Value
public import Idealize.ShloMosaic.Lib.Pipeline.ValueKit

@[expose] public section

set_option maxRecDepth 20000

noncomputable section

namespace Cert.KernValue

open Idealize.ShloMosaic Cert.KernelIdeal Cert.KernelIdeal.Gen Cert.KernelIdeal.Value Cert.KernLoop Cert.KernOut
  Cert.Noise Cert.First

variable (m : (ℓ : Loc nD τ sig) → Buf (Elt Ideal) ℓ) (c : Dev nD)

/-- The argument as a plain array. -/
abbrev input : (⟨2, ![128, 100000]⟩ : Shape).Idx → EReal := m ((c.tc : Thread nD τ).loc main_arg0)

theorem coords_eq : ∀ t : Fin grid0.N, ((grid0.coords t) 0).val = t.val := by decide +kernel

theorem index0 : ∀ t : Fin grid0.N, win0_0.index t = ![t.val, 0] := by decide +kernel
theorem index1 : ∀ t : Fin grid0.N, win0_1.index t = ![t.val, 0] := by decide +kernel

/-- Row `r` of block `t` is row `8 t + r` of the array. -/
def full (t : Fin grid0.N) (r : Fin 8) : Fin 128 := ⟨8 * t.val + r.val, by
  have h : t.val < 16 := t.isLt
  omega⟩

theorem block_apply (t : Fin cfg0.N) (r : Fin 8) (col : Fin 100000) :
    (iblk m c 0 t (ix2 r col) : EReal) = input m c (ix2 (full t r) col) := by
  blk_simp [iblk]
  have he : (win0_0.blk t).view.emb (ix2 r col : S8x100000.Idx) = (ix2 (full t r) col : S128x100000.Idx) := by
    refine funext fun a => Fin.ext ?_
    blk_simp [index0 t]
    fin_cases a
    · show t.val * 8 + r.val = 8 * t.val + r.val; omega
    · show 0 * 100000 + col.val = col.val; omega
  rw [V_main_arg0]
  exact congrArg (input m c) he

theorem row_eq (t : Fin cfg0.N) (r : Fin 8) (col : Fin 100000) :
    row ((grid0.coords t) 0).val (iblk m c 0 t) r col.val = zrow (input m c) (full t r) col := by
  rw [row_of_lt _ _ _ _ col.isLt, block_apply, coords_eq]
  rfl

variable (K : Fin 128 → Fin 100000) (hK : ∀ R, IsFirst (zrow (input m c) R) (K R))
  (hb : ∀ R, ⊥ < zrow (input m c) R (K R))

include hK hb

theorem first_row (t : Fin cfg0.N) (r : Fin 8) :
    Scan.First (row ((grid0.coords t) 0).val (iblk m c 0 t) r) (K (full t r)).val := by
  obtain ⟨h1, h2⟩ := hK (full t r)
  refine ⟨(K (full t r)).isLt, fun col hcol => ?_, fun col hcol => ?_, ?_⟩
  · rw [row_eq m c t r (K (full t r)), row_eq m c t r ⟨col, hcol⟩]
    exact h1 _
  · rw [row_eq m c t r (K (full t r)), row_eq m c t r ⟨col, hcol.trans (K (full t r)).isLt⟩]
    exact h2 _ hcol
  · rw [row_eq m c t r (K (full t r))]
    exact hb _

/-- The result. -/
def result (y : (⟨2, ![128, 100000]⟩ : Shape).Idx) : EReal := hot (K (y 0)).val (y 1).val

theorem arr_eq : (dats m 0 c).arrAt 1 cfg0.N = result K := by
  refine (dats m 0 c).arrAt_eq_of_covers 1 (result K) (by decide +kernel) fun t hf y => ?_
  blk_simp
  rw [after0_1]
  have hy : ∃ (r : Fin 8) (col : Fin 100000), y = (ix2 r col : S8x100000.Idx) :=
    ⟨y 0, y 1, funext fun a => by fin_cases a <;> rfl⟩
  obtain ⟨r, col, rfl⟩ := hy
  rw [outsAt0]
  refine (out_apply c (grid0.coords t) (ms0_0 t) (hs0_0 t) (ms0_1 t) (hs0_1 t) (iblk m c 0 t) r _
    (first_row m c K hK hb t r) col).trans ?_
  have he : (win0_1.blk t).view.emb (ix2 r col : S8x100000.Idx) = (ix2 (full t r) col : S128x100000.Idx) := by
    refine funext fun a => Fin.ext ?_
    blk_simp [index1 t]
    fin_cases a
    · show t.val * 8 + r.val = 8 * t.val + r.val; omega
    · show 0 * 100000 + col.val = col.val; omega
  rw [he]
  rfl

end Cert.KernValue
-- ==== Proof.RefHash.lean ====
/-
  The reference's hash at an index: nine of its operations are a round, seven a key addition.
-/
module

public import proofs.«01_k».proof.Proof.RefRun
public import proofs.«01_k».proof.Proof.Hash

@[expose] public section

set_option maxRecDepth 100000
set_option maxHeartbeats 4000000

noncomputable section

namespace Cert.RefRun

open Cert.ReferenceIdeal Cert.ReferenceIdeal.Gen Cert.Line Cert.Hash
open Idealize.ShloMosaic Idealize.ShloMosaic.StableHlo Idealize.SL.Sem

variable {F : FTy → Type} [FloatOps F] (m : (ℓ : Loc nD τ sig) → Buf (Elt F) ℓ) (d : Dev nD)

/-- Running the line's operation at place `i` again changes nothing. -/
theorem fx (i : Nat) {op : HloOp τ sig (Elt F)} (h : (ops (F := F)).drop i = op :: ops.drop (i + 1)) : Fixed (G m d) op := by
  refine seg m d i 1 op ?_
  rw [h]; exact List.mem_cons_self

/-- A typed reference to words of the result's shape. -/
abbrev W := TRef sig ⟨S128x100000, .i32⟩
/-- A typed reference to one word. -/
abbrev W₀ := TRef sig ⟨S_, .i32⟩

/-- The pair two buffers hold at an index. -/
def st (a b : W) (j : S128x100000.Idx) : W2 := (rd (G m d) a j, rd (G m d) b j)

/-- The one index of an array without axes. -/
def pt : S_.Idx := fun a => a.elim0

/-- A broadcast of one word holds it everywhere. -/
theorem spread_apply {T : Type} (x : S_.Idx → T) (j : S128x100000.Idx) :
    broadcastInDim S128x100000 ![] bcast_S_S128x100000 x j = x pt := congrArg x (funext fun a => a.elim0)

/-- The word operations at the result's shape, and the spread of one word over it. -/
abbrev add₂ : IVec S128x100000 32 → IVec S128x100000 32 → IVec S128x100000 32 := addi
abbrev xor₂ : IVec S128x100000 32 → IVec S128x100000 32 → IVec S128x100000 32 := xori
abbrev or₂ : IVec S128x100000 32 → IVec S128x100000 32 → IVec S128x100000 32 := ori
abbrev shl₂ : IVec S128x100000 32 → IVec S128x100000 32 → IVec S128x100000 32 := Host.shli
abbrev shr₂ : IVec S128x100000 32 → IVec S128x100000 32 → IVec S128x100000 32 := Host.shrui
abbrev spread : IVec S_ 32 → IVec S128x100000 32 := broadcastInDim S128x100000 ![] bcast_S_S128x100000

/-- Nine operations of the line, from place `i`, are a round. -/
theorem round (i : Nat) (r r' : BitVec 32) {x0 x1 s x b t b' t' o : W} {c c' : W₀}
    (h : ((ops (F := F)).drop i).take 9 = ([TRef.binary x0 x1 s add₂, TRef.nullary c (constantI S_ 32 r),
      TRef.unary c b spread, TRef.binary x1 b t shl₂,
      TRef.nullary c' (constantI S_ 32 r'), TRef.unary c' b' spread,
      TRef.binary x1 b' t' shr₂, TRef.binary t t' o or₂, TRef.binary s o x xor₂] : List (HloOp τ sig (Elt F))))
    (hr : r.toNat < 32) (hr' : r'.toNat < 32) (j : S128x100000.Idx) : st m d s x j = rnd r r' (st m d x0 x1 j) := by
  have f := seg m d i 9
  rw [h] at f
  simp only [List.forall_mem_cons] at f
  obtain ⟨f1, f2, f3, f4, f5, f6, f7, f8, f9, -⟩ := f
  have e1 := rd_binary f1
  have e3 := rd_unary f3
  have e6 := rd_unary f6
  rw [rd_nullary f2] at e3
  rw [rd_nullary f5] at e6
  have e8 := rd_binary f8
  rw [rd_binary f4, rd_binary f7, e3, e6] at e8
  have e9 := rd_binary f9
  rw [e8, e1] at e9
  unfold st
  rw [e9, e1]
  have h1 : IntOp.shli .host (rd (G m d) x1 j) r = rd (G m d) x1 j <<< r := if_pos hr
  have h2 : IntOp.shrui .host (rd (G m d) x1 j) r' = rd (G m d) x1 j >>> r' := if_pos hr'
  show (_, _ ^^^ (IntOp.shli .host (rd (G m d) x1 j) r ||| IntOp.shrui .host (rd (G m d) x1 j) r')) = _
  rw [h1, h2, BitVec.xor_comm]; rfl

/-- Seven operations of the line, from place `i`, are a key addition. -/
theorem keyed (i : Nat) (n : BitVec 32) {x0 x1 y0 y1 b b' b'' t : W} {k k' c : W₀}
    (h : ((ops (F := F)).drop i).take 7 = ([TRef.unary k b spread,
      TRef.binary x0 b y0 add₂, TRef.unary k' b' spread,
      TRef.binary x1 b' t add₂, TRef.nullary c (constantI S_ 32 n),
      TRef.unary c b'' spread, TRef.binary t b'' y1 add₂] : List (HloOp τ sig (Elt F))))
    (j : S128x100000.Idx) :
    st m d y0 y1 j = inj (rd (G m d) k pt) (rd (G m d) k' pt + n) (st m d x0 x1 j) := by
  have f := seg m d i 7
  rw [h] at f
  simp only [List.forall_mem_cons] at f
  obtain ⟨f1, f2, f3, f4, f5, f6, f7, -⟩ := f
  have e6 := rd_unary f6
  rw [rd_nullary f5] at e6
  have e7 := rd_binary f7
  rw [e6, rd_binary f4, rd_unary f3] at e7
  have e2 := rd_binary f2
  rw [rd_unary f1] at e2
  unfold st
  rw [e2, e7]
  show (_ + _, _ + _ + n) = (_ + _, _ + (_ + n))
  rw [BitVec.add_assoc, show spread (rd (G m d) k) j = _ from spread_apply _ j,
    show spread (rd (G m d) k') j = _ from spread_apply _ j]

/-- The reference's hash, from the pair its first round starts at and the key's words. -/
theorem hash_eq (j : S128x100000.Idx) (n : BitVec 32) (h : st m d main_call0_call0.v3 main_call0_call0.v5 j = (0#32, n + 42#32))
    (k0 : rd (G m d) main_call0.v5 pt = 0#32) (k1 : rd (G m d) main_call0.v7 pt = 42#32)
    (k2 : rd (G m d) main_call0_call0.v1 pt = 466689008#32) :
    st m d main_call0_call0.v171 main_call0_call0.v175 j = Hash.hash n := by
  rw [Hash.hash, ← h, four, four', four, four', four,
    ← round m d 41 13#32 19#32 rfl (by decide) (by decide), ← round m d 50 15#32 17#32 rfl (by decide) (by decide),
    ← round m d 59 26#32 6#32 rfl (by decide) (by decide), ← round m d 68 6#32 26#32 rfl (by decide) (by decide)]
  have i1 := keyed m d 77 1#32 rfl j
  rw [k1, k2] at i1
  rw [show (466689009#32 : BitVec 32) = 466689008#32 + 1#32 from rfl, ← i1,
    ← round m d 84 17#32 15#32 rfl (by decide) (by decide), ← round m d 93 29#32 3#32 rfl (by decide) (by decide),
    ← round m d 102 16#32 16#32 rfl (by decide) (by decide), ← round m d 111 24#32 8#32 rfl (by decide) (by decide)]
  have i2 := keyed m d 120 2#32 rfl j
  rw [k2, k0, BitVec.zero_add] at i2
  rw [← i2,
    ← round m d 127 13#32 19#32 rfl (by decide) (by decide), ← round m d 136 15#32 17#32 rfl (by decide) (by decide),
    ← round m d 145 26#32 6#32 rfl (by decide) (by decide), ← round m d 154 6#32 26#32 rfl (by decide) (by decide)]
  have i3 := keyed m d 163 3#32 rfl j
  rw [k0, k1] at i3
  rw [show (45#32 : BitVec 32) = 42#32 + 3#32 from rfl, ← i3,
    ← round m d 170 17#32 15#32 rfl (by decide) (by decide), ← round m d 179 29#32 3#32 rfl (by decide) (by decide),
    ← round m d 188 16#32 16#32 rfl (by decide) (by decide), ← round m d 197 24#32 8#32 rfl (by decide) (by decide)]
  have i4 := keyed m d 206 4#32 rfl j
  rw [k1, k2] at i4
  rw [show (466689012#32 : BitVec 32) = 466689008#32 + 4#32 from rfl, ← i4,
    ← round m d 213 13#32 19#32 rfl (by decide) (by decide), ← round m d 222 15#32 17#32 rfl (by decide) (by decide),
    ← round m d 231 26#32 6#32 rfl (by decide) (by decide), ← round m d 240 6#32 26#32 rfl (by decide) (by decide)]
  have i5 := keyed m d 249 5#32 rfl j
  rw [k2, k0, BitVec.zero_add] at i5
  exact i5

end Cert.RefRun

end
-- ==== Proof.RefCount.lean ====
/-
  What the reference's hash starts from: the key's words, and at each index the flat number of the element.
-/
module

public import proofs.«01_k».proof.Proof.RefHash
public import Idealize.ShloMosaic.Lib.Pipeline.Value

@[expose] public section

set_option maxRecDepth 100000
set_option maxHeartbeats 4000000

noncomputable section

namespace Cert.RefRun

open Cert.ReferenceIdeal Cert.ReferenceIdeal.Gen Cert.Line Cert.Hash
open Idealize.ShloMosaic Idealize.ShloMosaic.StableHlo Idealize.SL.Sem

variable {F : FTy → Type} [FloatOps F] (m : (ℓ : Loc nD τ sig) → Buf (Elt F) ℓ) (d : Dev nD)

/-- The one index of an array of one element. -/
def one0 : S1.Idx := fun a => ⟨0, by revert a; decide⟩

/-- Two arrays of one word, one after the other. -/
def pairUp (a b : IVec S1 32) : IVec S2 32 := concatenate S2 0 [⟨S1, a⟩, ⟨S1, b⟩] concatenates_S1_S1_S2_d0

/-- The key's two words, as one array. -/
theorem key_eq : rd (G m d) (.of main_v6 : TRef sig ⟨S2, .i32⟩) = fun j => if (j 0).val = 0 then 0#32 else 42#32 := by
  have e0 : rd (G m d) (.of main_c : W₀) = _ := rd_nullary (fx m d 0 rfl)
  have e1 : rd (G m d) (.of main_c_0 : W₀) = _ := rd_nullary (fx m d 1 rfl)
  have e2 : rd (G m d) (.of main_v0 : W₀) = Host.shrui (rd (G m d) (.of main_c : W₀)) (rd (G m d) (.of main_c_0 : W₀)) :=
    rd_binary (fx m d 2 rfl)
  have e3 : rd (G m d) (.of main_v1 : W₀) = id (rd (G m d) (.of main_v0 : W₀)) := rd_unary (fx m d 3 rfl)
  have e4 : rd (G m d) (.of main_v2 : TRef sig ⟨S1, .i32⟩) = broadcastInDim S1 ![] bcast_S_S1 (rd (G m d) (.of main_v1 : W₀)) :=
    rd_unary (fx m d 4 rfl)
  have e5 : rd (G m d) (.of main_c_1 : W₀) = _ := rd_nullary (fx m d 5 rfl)
  have e6 : rd (G m d) (.of main_v3 : W₀) = andi (rd (G m d) (.of main_c : W₀)) (rd (G m d) (.of main_c_1 : W₀)) :=
    rd_binary (fx m d 6 rfl)
  have e7 : rd (G m d) (.of main_v4 : W₀) = id (rd (G m d) (.of main_v3 : W₀)) := rd_unary (fx m d 7 rfl)
  have e8 : rd (G m d) (.of main_v5 : TRef sig ⟨S1, .i32⟩) = broadcastInDim S1 ![] bcast_S_S1 (rd (G m d) (.of main_v4 : W₀)) :=
    rd_unary (fx m d 8 rfl)
  have h9 : Fixed (G m d) (TRef.binary (.of main_v2 : TRef sig ⟨S1, .i32⟩) (.of main_v5 : TRef sig ⟨S1, .i32⟩)
    (.of main_v6 : TRef sig ⟨S2, .i32⟩) pairUp) := fx m d 9 rfl
  have e9 := rd_binary h9
  rw [e9, e4, e8, e3, e7, e2, e6, e0, e1, e5, pairUp]
  funext j
  have hj : (j 0).val < 2 := (j 0).isLt
  rcases Nat.lt_or_ge (j 0).val 1 with h | h
  · rw [if_pos (by omega)]
    refine (concatenate_pair_apply_left (t := S2) (s₁ := S1) (s₂ := S1) 0 _ _ _ j rfl one0 ?_).trans ?_
    · intro b; have : b = 0 := Subsingleton.elim _ _; subst this; show 0 = (j 0).val; omega
    · rfl
  · rw [if_neg (by omega)]
    refine (concatenate_pair_apply_right (t := S2) (s₁ := S1) (s₂ := S1) 0 _ _ _ j rfl rfl one0 ?_ ?_).trans ?_
    · intro b hb; exact absurd (Subsingleton.elim _ _) hb
    · show 0 + 1 = (j 0).val; omega
    · rfl

theorem key0 : rd (G m d) main_call0.v5 pt = 0#32 := by
  have e := congrFun (fx m d 17 (op := StableHlo.reshape main_call0_v4 main_call0_v5 rfl shapeCasts_S1_S_) rfl)
    (Proc.devRef .tc main_call0_v5)
  rw [reshape_result] at e
  have e4 : rd (G m d) main_call0.v4 = extractStridedSlice S1 ![0] (rd (G m d) (.of main_v6 : TRef sig ⟨S2, .i32⟩)) slices_S2_S1_0 :=
    rd_unary (fx m d 16 rfl)
  have e' : rd (G m d) main_call0.v5 = shapeCast S_ (rd (G m d) main_call0.v4) shapeCasts_S1_S_ := e.symm
  rw [e', e4, key_eq]
  refine (shapeCast_apply (s := S1) (t := S_) _ _ pt one0 ?_).trans ?_
  · rfl
  · rfl

theorem key1 : rd (G m d) main_call0.v7 pt = 42#32 := by
  have e := congrFun (fx m d 19 (op := StableHlo.reshape main_call0_v6 main_call0_v7 rfl shapeCasts_S1_S_) rfl)
    (Proc.devRef .tc main_call0_v7)
  rw [reshape_result] at e
  have e4 : rd (G m d) main_call0.v6 = extractStridedSlice S1 ![1] (rd (G m d) (.of main_v6 : TRef sig ⟨S2, .i32⟩)) slices_S2_S1_1 :=
    rd_unary (fx m d 18 rfl)
  have e' : rd (G m d) main_call0.v7 = shapeCast S_ (rd (G m d) main_call0.v6) shapeCasts_S1_S_ := e.symm
  rw [e', e4, key_eq]
  refine (shapeCast_apply (s := S1) (t := S_) _ _ pt one0 ?_).trans ?_
  · rfl
  · rfl

theorem key2 : rd (G m d) main_call0_call0.v1 pt = 466689008#32 := by
  have e0 : rd (G m d) main_call0_call0.v0 = xori (rd (G m d) main_call0.v5) (rd (G m d) main_call0.v7) := rd_binary (fx m d 34 rfl)
  have e1 : rd (G m d) main_call0_call0.c = _ := rd_nullary (fx m d 35 rfl)
  have e2 : rd (G m d) main_call0_call0.v1 = xori (rd (G m d) main_call0_call0.v0) (rd (G m d) main_call0_call0.c) :=
    rd_binary (fx m d 36 rfl)
  rw [e2, e0, e1]
  show (rd (G m d) main_call0.v5 pt ^^^ rd (G m d) main_call0.v7 pt) ^^^ 466688986#32 = _
  rw [key0, key1]
  exact (by decide : (0#32 ^^^ 42#32) ^^^ 466688986#32 = (466689008#32 : BitVec 32))

/-- The wide words of a shape the counters are made in. -/
abbrev L := TRef sig ⟨S128x100000, .i64⟩

theorem wide (j : S128x100000.Idx) :
    rd (G m d) main_call0.v14 j = BitVec.ofNat 64 ((j 0).val * 100000 + (j 1).val) := by
  have e0 : rd (G m d) main_call0.v8 = iotaInDim S128x100000 64 0 := rd_nullary (fx m d 20 rfl)
  have e1 : rd (G m d) main_call0.v9 = iotaInDim S128x100000 64 1 := rd_nullary (fx m d 21 rfl)
  have e2 : rd (G m d) main_call0.c = constantI S_ 64 100000#64 := rd_nullary (fx m d 22 rfl)
  have e3 : rd (G m d) main_call0.v10 = broadcastInDim S128x100000 ![] bcast_S_S128x100000 (rd (G m d) main_call0.c) :=
    rd_unary (fx m d 23 rfl)
  have e4 : rd (G m d) main_call0.v11 = muli (rd (G m d) main_call0.v10) (rd (G m d) main_call0.v8) := rd_binary (fx m d 24 rfl)
  have e5 : rd (G m d) main_call0.c_0 = constantI S_ 64 1#64 := rd_nullary (fx m d 25 rfl)
  have e6 : rd (G m d) main_call0.v12 = broadcastInDim S128x100000 ![] bcast_S_S128x100000 (rd (G m d) main_call0.c_0) :=
    rd_unary (fx m d 26 rfl)
  have e7 : rd (G m d) main_call0.v13 = muli (rd (G m d) main_call0.v12) (rd (G m d) main_call0.v9) := rd_binary (fx m d 27 rfl)
  have e8 : rd (G m d) main_call0.v14 = addi (rd (G m d) main_call0.v11) (rd (G m d) main_call0.v13) := rd_binary (fx m d 28 rfl)
  rw [e8, e4, e7, e3, e6, e0, e1, e2, e5]
  show 100000#64 * BitVec.ofNat 64 (j 0).val + 1#64 * BitVec.ofNat 64 (j 1).val = _
  apply BitVec.eq_of_toNat_eq
  simp only [BitVec.toNat_add, BitVec.toNat_mul, BitVec.toNat_ofNat]
  have h0 : (j 0).val < 128 := (j 0).isLt
  have h1 : (j 1).val < 100000 := (j 1).isLt
  omega

theorem start (j : S128x100000.Idx) :
    st m d main_call0_call0.v3 main_call0_call0.v5 j = (0#32, count (j 0).val (j 1).val + 42#32) := by
  have e0 : rd (G m d) main_call0.c_1 = constantI S_ 64 32#64 := rd_nullary (fx m d 29 rfl)
  have e1 : rd (G m d) main_call0.v15 = broadcastInDim S128x100000 ![] bcast_S_S128x100000 (rd (G m d) main_call0.c_1) :=
    rd_unary (fx m d 30 rfl)
  have e2 : rd (G m d) main_call0.v16 = Host.shrui (rd (G m d) main_call0.v14) (rd (G m d) main_call0.v15) := rd_binary (fx m d 31 rfl)
  have e3 : rd (G m d) main_call0.v17 = trunci 32 (rd (G m d) main_call0.v14) natLt_32_64 := rd_unary (fx m d 32 rfl)
  have e4 : rd (G m d) main_call0.v18 = trunci 32 (rd (G m d) main_call0.v16) natLt_32_64 := rd_unary (fx m d 33 rfl)
  have f2 : rd (G m d) main_call0_call0.v2 = spread (rd (G m d) main_call0.v5) := rd_unary (fx m d 37 rfl)
  have f3 : rd (G m d) main_call0_call0.v3 = add₂ (rd (G m d) main_call0.v18) (rd (G m d) main_call0_call0.v2) :=
    rd_binary (fx m d 38 rfl)
  have f4 : rd (G m d) main_call0_call0.v4 = spread (rd (G m d) main_call0.v7) := rd_unary (fx m d 39 rfl)
  have f5 : rd (G m d) main_call0_call0.v5 = add₂ (rd (G m d) main_call0.v17) (rd (G m d) main_call0_call0.v4) :=
    rd_binary (fx m d 40 rfl)
  unfold st
  rw [f3, f5, f2, f4, e4, e3, e2, e1, e0]
  have h0 : (j 0).val < 128 := (j 0).isLt
  have h1 : (j 1).val < 100000 := (j 1).isLt
  have g5 : spread (rd (G m d) main_call0.v5) j = 0#32 := (spread_apply _ j).trans (key0 m d)
  have g7 : spread (rd (G m d) main_call0.v7) j = 42#32 := (spread_apply _ j).trans (key1 m d)
  have hs : IntOp.shrui .host (rd (G m d) main_call0.v14 j) 32#64 = rd (G m d) main_call0.v14 j >>> 32#64 := if_pos (by decide)
  show (BitVec.truncate 32 (IntOp.shrui .host (rd (G m d) main_call0.v14 j) 32#64) + spread (rd (G m d) main_call0.v5) j,
    BitVec.truncate 32 (rd (G m d) main_call0.v14 j) + spread (rd (G m d) main_call0.v7) j) = _
  rw [hs, wide, g5, g7, BitVec.add_zero]
  generalize (j 0).val = a at *
  generalize (j 1).val = b at *
  refine Prod.ext ?_ ?_
  · apply BitVec.eq_of_toNat_eq
    have hm : (a * 100000 + b) % 18446744073709551616 / 4294967296 = 0 := by
      rw [Nat.mod_eq_of_lt (by omega), Nat.div_eq_of_lt (by omega)]
    simp [BitVec.toNat_setWidth, Nat.shiftRight_eq_div_pow, hm]
  · refine congrArg (· + 42#32) ?_
    apply BitVec.eq_of_toNat_eq
    simp [BitVec.toNat_setWidth, Hash.count]

/-- The reference's random word. -/
theorem word_eq (j : S128x100000.Idx) : rd (G m d) main_call0.v24 j = word (count (j 0).val (j 1).val) := by
  have e0 : rd (G m d) main_call0.v20 = xor₂ (rd (G m d) main_call0_call0.v171) (rd (G m d) main_call0_call0.v175) :=
    rd_binary (fx m d 256 rfl)
  have e1 : rd (G m d) main_call0.c_2 = constantI S_ 32 9#32 := rd_nullary (fx m d 257 rfl)
  have e2 : rd (G m d) main_call0.v21 = spread (rd (G m d) main_call0.c_2) := rd_unary (fx m d 258 rfl)
  have e3 : rd (G m d) main_call0.v22 = shr₂ (rd (G m d) main_call0.v20) (rd (G m d) main_call0.v21) := rd_binary (fx m d 259 rfl)
  have e4 : rd (G m d) main_call0.c_3 = constantI S_ 32 1065353216#32 := rd_nullary (fx m d 260 rfl)
  have e5 : rd (G m d) main_call0.v23 = spread (rd (G m d) main_call0.c_3) := rd_unary (fx m d 261 rfl)
  have e6 : rd (G m d) main_call0.v24 = or₂ (rd (G m d) main_call0.v22) (rd (G m d) main_call0.v23) := rd_binary (fx m d 262 rfl)
  have h := hash_eq m d j _ (start m d j) (key0 m d) (key1 m d) (key2 m d)
  rw [e6, e3, e5, e2, e0, e1, e4]
  have hs (x : BitVec 32) : IntOp.shrui .host x 9#32 = x >>> 9#32 := if_pos (by decide)
  show IntOp.shrui .host ((st m d main_call0_call0.v171 main_call0_call0.v175 j).1
    ^^^ (st m d main_call0_call0.v171 main_call0_call0.v175 j).2) 9#32 ||| 1065353216#32 = _
  rw [h, hs]; rfl

end Cert.RefRun

end
-- ==== Proof.RefEqs.lean ====
/-
  The reference's operations after the random words, as functions of whole arrays.
-/
module

public import proofs.«01_k».proof.Proof.RefCount

@[expose] public section

set_option maxRecDepth 100000
set_option maxHeartbeats 4000000

noncomputable section

namespace Cert.RefRun

open Cert.ReferenceIdeal Cert.ReferenceIdeal.Gen Cert.Line Cert.Hash
open Idealize.ShloMosaic Idealize.ShloMosaic.StableHlo Idealize.SL.Sem

variable {F : FTy → Type} [FloatOps F] (m : (ℓ : Loc nD τ sig) → Buf (Elt F) ℓ) (d : Dev nD)

/-- Numbers of the result's shape, a number a row, a column of numbers, one number. -/
abbrev X := TRef sig ⟨S128x100000, .f32⟩
abbrev Xr := TRef sig ⟨S128, .f32⟩
abbrev Xc := TRef sig ⟨S128x1, .f32⟩
abbrev X₀ := TRef sig ⟨S_, .f32⟩
abbrev V (F : FTy → Type) := FVec F S128x100000 .f32
abbrev Vr (F : FTy → Type) := FVec F S128 .f32
abbrev V₀ (F : FTy → Type) := FVec F S_ .f32
abbrev V₁ (F : FTy → Type) := FVec F S1x1 .f32

abbrev cst₀ (b : BitVec 32) : V₀ F := constant S_ .f32 b
abbrev addX : V F → V F → V F := addf
abbrev subX : V F → V F → V F := subf
abbrev mulX : V F → V F → V F := mulf
abbrev maxX : V F → V F → V F := maximumf
abbrev divX : V F → V F → V F := Host.divf
abbrev logX : V F → V F := Host.log
abbrev negX : V F → V F := Host.negf
abbrev expX : V F → V F := Host.exp
abbrev sub11 : V₁ F → V₁ F → V₁ F := subf
abbrev castX : IVec S128x100000 32 → V F := bitcastToFloat .f32

/-- One number everywhere. -/
def spreadX : V₀ F → V F := broadcastInDim S128x100000 ![] bcast_S_S128x100000
def spread11 : V₁ F → V F := broadcastInDim S128x100000 ![0, 1] bcast_S1x1_S128x100000_0_1
def one11 : V₀ F → V₁ F := broadcastInDim S1x1 ![] bcast_S_S1x1
/-- A number a row, spread along the rows. -/
def spreadR (x : Vr F) : V F :=
  broadcastInDim S128x100000 ![0, 1] bcast_S128x1_S128x100000_0_1 (broadcastInDim S128x1 ![0] bcast_S128_S128x1_0 x)
/-- The greatest of each row, and the sum of each row. -/
def rowMax (x : V F) (v : V₀ F) : Vr F := Host.reduce FloatOps.maximumf x v reducesTo_S128x100000_S128_d1 h_S_
def rowSum (x : V F) (v : V₀ F) : Vr F := Host.reduceAdd x v reducesTo_S128x100000_S128_d1 h_S_
theorem rowMax_def (x : V F) (v : V₀ F) : rowMax x v = Host.reduce FloatOps.maximumf x v reducesTo_S128x100000_S128_d1 h_S_ := rfl
theorem rowSum_def (x : V F) (v : V₀ F) : rowSum x v = Host.reduceAdd x v reducesTo_S128x100000_S128_d1 h_S_ := rfl
/-- The argument, as the reference's buffer holds it. -/
def arg : V F := rd (G m d) (.of main_arg0 : X)

/-- The uniform numbers of random words. -/
def unifOf (w : IVec S128x100000 32) : V F :=
  maxX (spread11 (one11 (cst₀ 0x00000000#32))) (addX (mulX (subX (castX w) (spreadX (cst₀ 0x3F800000#32)))
    (spread11 (sub11 (one11 (cst₀ 0x3F800000#32)) (one11 (cst₀ 0x00000000#32))))) (spread11 (one11 (cst₀ 0x00000000#32))))

theorem unif_eq : rd (G m d) (.of main_v7 : X) = unifOf (rd (G m d) main_call0.v24) := by
  have a0 : rd (G m d) (.of main_cst : X₀) = cst₀ 0x00000000#32 := rd_nullary (fx m d 10 rfl)
  have a1 : rd (G m d) (.of main_cst_2 : X₀) = cst₀ 0x3F800000#32 := rd_nullary (fx m d 11 rfl)
  have i0 : rd (G m d) main_call0.v0 = id (rd (G m d) (.of main_cst : X₀)) := rd_unary (fx m d 12 rfl)
  have i1 : rd (G m d) main_call0.v1 = id (rd (G m d) (.of main_cst_2 : X₀)) := rd_unary (fx m d 13 rfl)
  have a2 : rd (G m d) main_call0.v2 = one11 (rd (G m d) main_call0.v0) := rd_unary (fx m d 14 rfl)
  have a3 : rd (G m d) main_call0.v3 = one11 (rd (G m d) main_call0.v1) := rd_unary (fx m d 15 rfl)
  have b0 : rd (G m d) main_call0.v25 = castX (rd (G m d) main_call0.v24) := rd_unary (fx m d 263 rfl)
  have b1 : rd (G m d) main_call0.cst = cst₀ 0x3F800000#32 := rd_nullary (fx m d 264 rfl)
  have b2 : rd (G m d) main_call0.v26 = spreadX (rd (G m d) main_call0.cst) := rd_unary (fx m d 265 rfl)
  have b3 : rd (G m d) main_call0.v27 = subX (rd (G m d) main_call0.v25) (rd (G m d) main_call0.v26) := rd_binary (fx m d 266 rfl)
  have b4 : rd (G m d) main_call0.v28 = sub11 (rd (G m d) main_call0.v3) (rd (G m d) main_call0.v2) := rd_binary (fx m d 267 rfl)
  have b5 : rd (G m d) main_call0.v29 = spread11 (rd (G m d) main_call0.v28) := rd_unary (fx m d 268 rfl)
  have b6 : rd (G m d) main_call0.v30 = mulX (rd (G m d) main_call0.v27) (rd (G m d) main_call0.v29) := rd_binary (fx m d 269 rfl)
  have b7 : rd (G m d) main_call0.v31 = spread11 (rd (G m d) main_call0.v2) := rd_unary (fx m d 270 rfl)
  have b8 : rd (G m d) main_call0.v32 = addX (rd (G m d) main_call0.v30) (rd (G m d) main_call0.v31) := rd_binary (fx m d 271 rfl)
  have b9 : rd (G m d) main_call0.v33 = spread11 (rd (G m d) main_call0.v2) := rd_unary (fx m d 272 rfl)
  have c0 : rd (G m d) (.of main_v7 : X) = maxX (rd (G m d) main_call0.v33) (rd (G m d) main_call0.v32) := rd_binary (fx m d 273 rfl)
  rw [c0, b9, b8, b7, b6, b5, b4, b3, b2, b1, b0, a3, a2, i1, i0, a1, a0, id, id, unifOf]

/-- The argument with its noise, from the uniform numbers. -/
def sumOf (a u : V F) : V F :=
  addX a (negX (logX (addX (negX (logX (addX u (spreadX (cst₀ 0x2EDBE6FF#32))))) (spreadX (cst₀ 0x2EDBE6FF#32)))))

theorem sum_eq : rd (G m d) (.of main_v16 : X) = sumOf (arg m d) (rd (G m d) (.of main_v7 : X)) := by
  have a0 : rd (G m d) (.of main_cst_3 : X₀) = cst₀ 0x2EDBE6FF#32 := rd_nullary (fx m d 274 rfl)
  have a1 : rd (G m d) (.of main_v8 : X) = spreadX (rd (G m d) (.of main_cst_3 : X₀)) := rd_unary (fx m d 275 rfl)
  have a2 : rd (G m d) (.of main_v9 : X) = addX (rd (G m d) (.of main_v7 : X)) (rd (G m d) (.of main_v8 : X)) := rd_binary (fx m d 276 rfl)
  have a3 : rd (G m d) (.of main_v10 : X) = logX (rd (G m d) (.of main_v9 : X)) := rd_unary (fx m d 277 rfl)
  have a4 : rd (G m d) (.of main_v11 : X) = negX (rd (G m d) (.of main_v10 : X)) := rd_unary (fx m d 278 rfl)
  have a5 : rd (G m d) (.of main_cst_4 : X₀) = cst₀ 0x2EDBE6FF#32 := rd_nullary (fx m d 279 rfl)
  have a6 : rd (G m d) (.of main_v12 : X) = spreadX (rd (G m d) (.of main_cst_4 : X₀)) := rd_unary (fx m d 280 rfl)
  have a7 : rd (G m d) (.of main_v13 : X) = addX (rd (G m d) (.of main_v11 : X)) (rd (G m d) (.of main_v12 : X)) := rd_binary (fx m d 281 rfl)
  have a8 : rd (G m d) (.of main_v14 : X) = logX (rd (G m d) (.of main_v13 : X)) := rd_unary (fx m d 282 rfl)
  have a9 : rd (G m d) (.of main_v15 : X) = negX (rd (G m d) (.of main_v14 : X)) := rd_unary (fx m d 283 rfl)
  have b0 : rd (G m d) (.of main_v16 : X) = addX (rd (G m d) (.of main_arg0 : X)) (rd (G m d) (.of main_v15 : X)) := rd_binary (fx m d 284 rfl)
  rw [b0, a9, a8, a7, a6, a5, a4, a3, a2, a1, a0, sumOf, arg]

/-- Half of it. -/
def halfOf (x : V F) : V F := divX x (spreadX (cst₀ 0x40000000#32))

theorem half_eq : rd (G m d) (.of main_v18 : X) = halfOf (rd (G m d) (.of main_v16 : X)) := by
  have a0 : rd (G m d) (.of main_cst_5 : X₀) = cst₀ 0x40000000#32 := rd_nullary (fx m d 285 rfl)
  have a1 : rd (G m d) (.of main_v17 : X) = spreadX (rd (G m d) (.of main_cst_5 : X₀)) := rd_unary (fx m d 286 rfl)
  have a2 : rd (G m d) (.of main_v18 : X) = divX (rd (G m d) (.of main_v16 : X)) (rd (G m d) (.of main_v17 : X)) := rd_binary (fx m d 287 rfl)
  rw [a2, a1, a0, halfOf]

/-- What the softmax subtracts: the greatest of the row. -/
def shiftOf (x : V F) : V F :=
  spreadR ((maximumf : Vr F → Vr F → Vr F) (broadcastInDim S128 ![] bcast_S_S128 (cst₀ 0xFF800000#32 : V₀ F)) (rowMax x (cst₀ 0xFF800000#32)))

theorem shift_eq : rd (G m d) (.of main_v23 : X) = shiftOf (rd (G m d) (.of main_v18 : X)) := by
  have a0 : rd (G m d) (.of main_cst_6 : X₀) = cst₀ 0xFF800000#32 := rd_nullary (fx m d 288 rfl)
  have h0 : ∀ f : (⟨S128x100000, .f32⟩ : BufTy).Contents (Elt F) → (⟨S_, .f32⟩ : BufTy).Contents (Elt F) → (⟨S128, .f32⟩ : BufTy).Contents (Elt F),
    (StableHlo.binary main_v18 main_cst_6 main_v19 f : HloOp τ sig (Elt F)) = TRef.binary (.of main_v18 : X) (.of main_cst_6 : X₀) (.of main_v19 : Xr) f := fun _ => rfl
  have h1 : Fixed (G m d) (StableHlo.binary main_v18 main_cst_6 main_v19
    ((fun x v => Host.reduce FloatOps.maximumf x v reducesTo_S128x100000_S128_d1 h_S_) : (⟨S128x100000, .f32⟩ : BufTy).Contents (Elt F) →
      (⟨S_, .f32⟩ : BufTy).Contents (Elt F) → (⟨S128, .f32⟩ : BufTy).Contents (Elt F))) := fx m d 289 rfl
  rw [h0] at h1
  have a1 : rd (G m d) (.of main_v19 : Xr) = rowMax (rd (G m d) (.of main_v18 : X)) (rd (G m d) (.of main_cst_6 : X₀)) := by
    rw [rd_binary h1, rowMax]
  have a2 : rd (G m d) (.of main_cst_7 : X₀) = cst₀ 0xFF800000#32 := rd_nullary (fx m d 290 rfl)
  have a3 : rd (G m d) (.of main_v20 : Xr) = broadcastInDim S128 ![] bcast_S_S128 (rd (G m d) (.of main_cst_7 : X₀)) := rd_unary (fx m d 291 rfl)
  have a4 : rd (G m d) (.of main_v21 : Xr)
      = (maximumf : Vr F → Vr F → Vr F) (rd (G m d) (.of main_v20 : Xr)) (rd (G m d) (.of main_v19 : Xr)) := rd_binary (fx m d 292 rfl)
  have a5 : rd (G m d) (.of main_v22 : Xc) = broadcastInDim S128x1 ![0] bcast_S128_S128x1_0 (rd (G m d) (.of main_v21 : Xr)) :=
    rd_unary (fx m d 293 rfl)
  have a6 : rd (G m d) (.of main_v23 : X) = broadcastInDim S128x100000 ![0, 1] bcast_S128x1_S128x100000_0_1 (rd (G m d) (.of main_v22 : Xc)) :=
    rd_unary (fx m d 294 rfl)
  rw [a6, a5, a4, a3, a2, a1, a0, shiftOf, spreadR]

/-- The softmax, from the numbers and their shift. -/
def softOf (x s : V F) : V F := divX (expX (subX x s)) (spreadR (rowSum (expX (subX x s)) (cst₀ 0x00000000#32)))

theorem soft_eq : rd (G m d) (.of main_v29 : X) = softOf (rd (G m d) (.of main_v18 : X)) (rd (G m d) (.of main_v23 : X)) := by
  have a0 : rd (G m d) (.of main_v24 : X) = subX (rd (G m d) (.of main_v18 : X)) (rd (G m d) (.of main_v23 : X)) := rd_binary (fx m d 295 rfl)
  have a1 : rd (G m d) (.of main_v25 : X) = expX (rd (G m d) (.of main_v24 : X)) := rd_unary (fx m d 296 rfl)
  have a2 : rd (G m d) (.of main_cst_8 : X₀) = cst₀ 0x00000000#32 := rd_nullary (fx m d 297 rfl)
  have a3 : rd (G m d) (.of main_v26 : Xr) = rowSum (rd (G m d) (.of main_v25 : X)) (rd (G m d) (.of main_cst_8 : X₀)) :=
    rd_binary (fx m d 298 rfl)
  have a4 : rd (G m d) (.of main_v27 : Xc) = broadcastInDim S128x1 ![0] bcast_S128_S128x1_0 (rd (G m d) (.of main_v26 : Xr)) :=
    rd_unary (fx m d 299 rfl)
  have a5 : rd (G m d) (.of main_v28 : X) = broadcastInDim S128x100000 ![0, 1] bcast_S128x1_S128x100000_0_1 (rd (G m d) (.of main_v27 : Xc)) :=
    rd_unary (fx m d 300 rfl)
  have a6 : rd (G m d) (.of main_v29 : X) = divX (rd (G m d) (.of main_v25 : X)) (rd (G m d) (.of main_v28 : X)) := rd_binary (fx m d 301 rfl)
  rw [a6, a5, a4, a3, a2, a1, a0, softOf, spreadR]

theorem arg_eq : rd (G m d) (.of main_v30 : TRef sig ⟨S128, .i32⟩)
    = fun j => (Host.argReduce reducer_argmax_f32_i32 (rd (G m d) (.of main_v29 : X)) (iotaInDim S128x100000 32 1)
      (cst₀ 0xFF800000#32) (constantI S_ 32 0#32) reducesTo_S128x100000_S128_d1 h_S_ j).2 := by
  have b0 : rd (G m d) main_call1.v0 = iotaInDim S128x100000 32 1 := rd_nullary (fx m d 302 rfl)
  have b1 : rd (G m d) main_call1.cst = cst₀ 0xFF800000#32 := rd_nullary (fx m d 303 rfl)
  have b2 : rd (G m d) main_call1.c = constantI S_ 32 0#32 := rd_nullary (fx m d 304 rfl)
  have b3 : rd (G m d) (.of main_v30 : TRef sig ⟨S128, .i32⟩)
      = fun j => (Host.argReduce reducer_argmax_f32_i32 (rd (G m d) (.of main_v29 : X)) (rd (G m d) main_call1.v0) (rd (G m d) main_call1.cst)
        (rd (G m d) main_call1.c) reducesTo_S128x100000_S128_d1 h_S_ j).2 := rd_quaternary (fx m d 306 rfl)
  rw [b3, b0, b1, b2]

/-- One where the column is the row's place, and nought elsewhere. -/
def hotOf (a : IVec S128 32) : V F := (uitofp .f32 : IVec S128x100000 1 → V F) (cmpi .eq
  (broadcastInDim S128x100000 ![0, 1] bcast_S128x1_S128x100000_0_1 (broadcastInDim S128x1 ![0] bcast_S128_S128x1_0 a))
  (broadcastInDim S128x100000 ![0, 1] bcast_S1x100000_S128x100000_0_1 (iotaInDim S1x100000 32 1)))

theorem hot_eq : rd (G m d) (.of main_v33 : X) = addX (subX (hotOf (rd (G m d) (.of main_v30 : TRef sig ⟨S128, .i32⟩)))
    (rd (G m d) (.of main_v29 : X))) (rd (G m d) (.of main_v29 : X)) := by
  have b0 : rd (G m d) main_call2.v0 = broadcastInDim S128x1 ![0] bcast_S128_S128x1_0 (rd (G m d) (.of main_v30 : TRef sig ⟨S128, .i32⟩)) :=
    rd_unary (fx m d 307 rfl)
  have b1 : rd (G m d) main_call2.v1 = iotaInDim S1x100000 32 1 := rd_nullary (fx m d 308 rfl)
  have b2 : rd (G m d) main_call2.v2 = broadcastInDim S128x100000 ![0, 1] bcast_S128x1_S128x100000_0_1 (rd (G m d) main_call2.v0) :=
    rd_unary (fx m d 309 rfl)
  have b3 : rd (G m d) main_call2.v3 = broadcastInDim S128x100000 ![0, 1] bcast_S1x100000_S128x100000_0_1 (rd (G m d) main_call2.v1) :=
    rd_unary (fx m d 310 rfl)
  have b4 : rd (G m d) main_call2.v4 = (cmpi .eq : IVec S128x100000 32 → IVec S128x100000 32 → IVec S128x100000 1)
      (rd (G m d) main_call2.v2) (rd (G m d) main_call2.v3) := rd_binary (fx m d 311 rfl)
  have b5 : rd (G m d) (.of main_v31 : X) = (uitofp .f32 : IVec S128x100000 1 → V F) (rd (G m d) main_call2.v4) := rd_unary (fx m d 312 rfl)
  have b6 : rd (G m d) (.of main_v32 : X) = subX (rd (G m d) (.of main_v31 : X)) (rd (G m d) (.of main_v29 : X)) := rd_binary (fx m d 313 rfl)
  have b7 : rd (G m d) (.of main_v33 : X) = addX (rd (G m d) (.of main_v32 : X)) (rd (G m d) (.of main_v29 : X)) := rd_binary (fx m d 314 rfl)
  rw [b7, b6, b5, b4, b3, b2, b1, b0, hotOf]

end Cert.RefRun
-- ==== Proof.RefArg.lean ====
/-
  The arg-max's place: the first of the row's greatest values.
-/
module

public import proofs.«01_k».proof.Proof.RefEqs
public import proofs.«01_k».proof.Proof.First
public import Idealize.ShloMosaic.Lib.Pointwise.Reduce
public import Idealize.ShloMosaic.PureOps.Ideal.Laws

@[expose] public section

set_option maxRecDepth 100000
set_option maxHeartbeats 4000000

noncomputable section

namespace Cert.RefRun

open Cert.ReferenceIdeal Cert.ReferenceIdeal.Gen Cert.Line Cert.Hash Cert.First
open Idealize.ShloMosaic Idealize.ShloMosaic.StableHlo Idealize.SL.Sem

theorem bot_lit : Ideal.ofBits .f32 0xFF800000#32 = ⊥ := by simp [Ideal.ofBits, Ideal.ieee]

/-- `q` is no better a pair than `p`: a lesser value, or the same at a place no earlier. -/
def NoBetter (q p : EReal × BitVec 32) : Prop := q.1 < p.1 ∨ q.1 = p.1 ∧ p.2.toInt ≤ q.2.toInt

theorem reducer_hop (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨x, i⟩ := a
  obtain ⟨y, j⟩ := b
  have ht : ∀ (α : Type) (p q : α), Scalar.select 1#1 p q = p := fun _ _ _ => rfl
  have hf : ∀ (α : Type) (p q : α), Scalar.select 0#1 p q = q := fun _ _ _ => rfl
  have hu : Ideal.cmp .une x x = 0#1 := by unfold Ideal.cmp; rw [decide_eq_false (not_not.2 rfl)]; rfl
  rcases lt_trichotomy x y with h | h | h
  · have e : reducer_argmax_f32_i32 (F := Ideal) (x, i) (y, j) = (y, j) := by
      have h1 : Ideal.cmp .ogt x y = 0#1 := by unfold Ideal.cmp; rw [decide_eq_false (not_lt.2 h.le)]; rfl
      have h2 : Ideal.cmp .oeq x y = 0#1 := by unfold Ideal.cmp; rw [decide_eq_false h.ne]; rfl
      show (Scalar.select (Ideal.cmp .ogt x y ||| Ideal.cmp .une x x) x y,
        Scalar.select ((Ideal.cmp .ogt x y ||| Ideal.cmp .une x x) ||| (Ideal.cmp .oeq x y &&& IntOp.cmpi .slt i j)) i j) = _
      rw [h1, h2, hu, BitVec.zero_and]; rfl
    rw [e]
    exact ⟨.inr rfl, .inl h, .inr ⟨rfl, le_refl _⟩⟩
  · subst h
    have h1 : Ideal.cmp .ogt x x = 0#1 := by unfold Ideal.cmp; rw [decide_eq_false (lt_irrefl x)]; rfl
    have h2 : Ideal.cmp .oeq x x = 1#1 := by unfold Ideal.cmp; rw [decide_eq_true rfl]; rfl
    have e : reducer_argmax_f32_i32 (F := Ideal) (x, i) (x, j) = (x, if i.toInt < j.toInt then i else j) := by
      show (Scalar.select (Ideal.cmp .ogt x x ||| Ideal.cmp .une x x) x x,
        Scalar.select ((Ideal.cmp .ogt x x ||| Ideal.cmp .une x x) ||| (Ideal.cmp .oeq x x &&& IntOp.cmpi .slt i j)) i j) = _
      rw [h1, h2, hu]
      by_cases hij : i.toInt < j.toInt
      · have hc : IntOp.cmpi .slt i j = 1#1 := by simp [IntOp.cmpi, BitVec.slt, hij]
        rw [hc, if_pos hij]; rfl
      · have hc : IntOp.cmpi .slt i j = 0#1 := by simp [IntOp.cmpi, BitVec.slt, hij]
        rw [hc, if_neg hij]; rfl
    rw [e]
    by_cases hij : i.toInt < j.toInt
    · rw [if_pos hij]; exact ⟨.inl rfl, .inr ⟨rfl, le_refl _⟩, .inr ⟨rfl, hij.le⟩⟩
    · rw [if_neg hij]; exact ⟨.inr rfl, .inr ⟨rfl, not_lt.1 hij⟩, .inr ⟨rfl, le_refl _⟩⟩
  · have e : reducer_argmax_f32_i32 (F := Ideal) (x, i) (y, j) = (x, i) := by
      have h1 : Ideal.cmp .ogt x y = 1#1 := by unfold Ideal.cmp; rw [decide_eq_true h]; rfl
      have h2 : Ideal.cmp .oeq x y = 0#1 := by unfold Ideal.cmp; rw [decide_eq_false h.ne']; rfl
      show (Scalar.select (Ideal.cmp .ogt x y ||| Ideal.cmp .une x x) x y,
        Scalar.select ((Ideal.cmp .ogt x y ||| Ideal.cmp .une x x) ||| (Ideal.cmp .oeq x y &&& IntOp.cmpi .slt i j)) i j) = _
      rw [h1, h2, hu, BitVec.zero_and]; rfl
    rw [e]
    exact ⟨.inl rfl, .inr ⟨rfl, le_refl _⟩, .inl h⟩

theorem NoBetter.trans (a b c : EReal × BitVec 32) (h : NoBetter a b) (h' : NoBetter b c) : NoBetter a c := by
  rcases h with h | ⟨h, i⟩
  · rcases h' with h' | ⟨h', -⟩
    · exact .inl (h.trans h')
    · exact .inl (h' ▸ h)
  · rcases h' with h' | ⟨h', i'⟩
    · exact .inl (h ▸ h')
    · exact .inr ⟨h.trans h', i'.trans i⟩

/-- A column's number as a signed word. -/
theorem col_toInt (c : Fin 100000) : (BitVec.ofNat 32 c.val).toInt = (c.val : Int) := by
  have := c.isLt
  rw [BitVec.toInt_eq_toNat_of_lt] <;> rw [BitVec.toNat_ofNat, Nat.mod_eq_of_lt (by omega)]
  omega

/-- On the extended reals an arg-reduction folds over the pairs of a value and its place. -/
theorem argReduce_fold {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- A fold over pairs of a value and its place keeps the row's first greatest. -/
theorem fold_first (y : Fin 100000 → EReal) (k : Fin 100000) (hb : ⊥ < y k) (hk : IsFirst y k) (l : List (EReal × BitVec 32))
    (mem : ∀ c, (y c, BitVec.ofNat 32 c.val) ∈ l) (mem' : ∀ p ∈ l, ∃ c : Fin 100000, p = (y c, BitVec.ofNat 32 c.val))
    (i : EReal × BitVec 32) (hi : i.1 = ⊥) :
    (l.foldl (reducer_argmax_f32_i32 (F := Ideal)) i).2 = BitVec.ofNat 32 k.val := by
  obtain ⟨h1, -, h3⟩ := foldl_best NoBetter NoBetter.trans (fun a => .inr ⟨rfl, le_refl _⟩) (reducer_argmax_f32_i32 (F := Ideal)) reducer_hop l i
  generalize List.foldl _ _ _ = best at *
  have hbest : ∃ c : Fin 100000, best = (y c, BitVec.ofNat 32 c.val) := by
    rcases h1 with h1 | h1
    · exfalso
      have h := h3 _ (mem k)
      rw [h1] at h
      rcases h with h | ⟨h, -⟩
      · rw [hi] at h; exact not_lt_bot h
      · rw [hi] at h; exact hb.ne' h
    · exact mem' _ h1
  obtain ⟨c, rfl⟩ := hbest
  have hc : IsFirst y c := by
    refine ⟨fun j => ?_, fun j hj => ?_⟩
    · rcases h3 _ (mem j) with h | ⟨h, -⟩
      · exact le_of_lt h
      · exact le_of_eq h
    · rcases h3 _ (mem j) with h | ⟨-, h⟩
      · exact h
      · exfalso
        have h' : (BitVec.ofNat 32 c.val).toInt ≤ (BitVec.ofNat 32 j.val).toInt := h
        rw [col_toInt, col_toInt] at h'
        have : j.val < c.val := hj
        omega
  rw [hc.unique hk]

/-- The arg-max of an array whose row `r` has a value above minus infinity: the row's first greatest place. -/
theorem argmax_eq (x : V Ideal) (r : Fin 128) (k : Fin 100000) (hb : ⊥ < x (ix2 r k)) (hk : IsFirst (fun c => x (ix2 r c)) k) :
    (Host.argReduce (reducer_argmax_f32_i32 (F := Ideal)) x (iotaInDim S128x100000 32 1) (cst₀ 0xFF800000#32 : V₀ Ideal) (constantI S_ 32 0#32)
      reducesTo_S128x100000_S128_d1 h_S_ (ix1 r)).2 = BitVec.ofNat 32 k.val := by
  refine (argReduce_fold (reducer_argmax_f32_i32 (F := Ideal)) x (iotaInDim S128x100000 32 1) (cst₀ 0xFF800000#32 : V₀ Ideal) (constantI S_ 32 0#32)
    reducesTo_S128x100000_S128_d1 h_S_ (ix1 r)).trans ?_
  refine fold_first (fun c => x (ix2 r c)) k hb hk _ (fun c => ?_) (fun p hp => ?_) _ bot_lit
  · unfold Host.argReduceFiber
    refine List.mem_map.2 ⟨S128x100000.rowMajor (ix2 r c), List.mem_filter.2 ⟨List.mem_finRange _, ?_⟩, ?_⟩
    · rw [Equiv.symm_apply_apply, decide_eq_true_eq, Shape.ReducesTo.fiber_r2_a1]
      exact ⟨c, rfl⟩
    · rw [Equiv.symm_apply_apply]; rfl
  · unfold Host.argReduceFiber at hp
    obtain ⟨n, hn, rfl⟩ := List.mem_map.1 hp
    have hd := (List.mem_filter.1 hn).2
    rw [decide_eq_true_eq, Shape.ReducesTo.fiber_r2_a1] at hd
    obtain ⟨c, hc⟩ := hd
    refine ⟨c, ?_⟩
    rw [← hc]; rfl

end Cert.RefRun
-- ==== Proof.RefValue.lean ====
/-
  The reference's result at an index: one at the first place of the row's greatest sum of argument and noise, nought
  elsewhere.
-/
module

public import proofs.«01_k».proof.Proof.RefEqs
public import proofs.«01_k».proof.Proof.Noise
public import proofs.«01_k».proof.Proof.RefArg

@[expose] public section

set_option maxRecDepth 100000
set_option maxHeartbeats 4000000

noncomputable section

namespace Cert.RefRun

open Cert.ReferenceIdeal Cert.ReferenceIdeal.Gen Cert.Line Cert.Hash Cert.Noise Cert.First
open Idealize.ShloMosaic Idealize.ShloMosaic.StableHlo Idealize.SL.Sem

/-- One number everywhere, at an index. -/
theorem spreadX_apply (b : BitVec 32) (j : S128x100000.Idx) : spreadX (cst₀ b : V₀ Ideal) j = Ideal.ofBits .f32 b := rfl

theorem unifOf_apply (w : IVec S128x100000 32) (j : S128x100000.Idx) : unifOf (F := Ideal) w j
    = max (Ideal.ofBits .f32 0x00000000#32) ((Ideal.ofBits .f32 (w j) - Ideal.ofBits .f32 0x3F800000#32)
      * (Ideal.ofBits .f32 0x3F800000#32 - Ideal.ofBits .f32 0x00000000#32) + Ideal.ofBits .f32 0x00000000#32) := rfl

theorem sumOf_apply (a u : V Ideal) (j : S128x100000.Idx) :
    sumOf a u j = a j + -Ideal.log (-Ideal.log (u j + Ideal.ofBits .f32 0x2EDBE6FF#32) + Ideal.ofBits .f32 0x2EDBE6FF#32) := rfl

theorem halfOf_apply (a : V Ideal) (j : S128x100000.Idx) : halfOf a j = Ideal.div (a j) (Ideal.ofBits .f32 0x40000000#32) := rfl

/-- A number a row, at an index. -/
theorem row_apply {T : Type} (x : S128.Idx → T) (r : Fin 128) (c : Fin 100000) :
    broadcastInDim S128x100000 ![0, 1] bcast_S128x1_S128x100000_0_1 (broadcastInDim S128x1 ![0] bcast_S128_S128x1_0 x) (ix2 r c)
      = x (ix1 r) := by
  refine congrArg x (funext fun a => ?_)
  match a with
  | ⟨0, _⟩ => rfl

theorem spreadR_apply (x : Vr Ideal) (r : Fin 128) (c : Fin 100000) : spreadR x (ix2 r c) = x (ix1 r) := row_apply x r c

theorem rowMax_apply (x : V Ideal) (r : Fin 128) :
    rowMax x (cst₀ 0xFF800000#32) (ix1 r) = (Finset.univ : Finset (Fin 100000)).fold max ⊥ fun c => x (ix2 r c) := by
  rw [rowMax_def, Host.reduce_eq_fold, Shape.ReducesTo.fold_fiber_r2_a1]
  show (Finset.univ : Finset (Fin 100000)).fold max (Ideal.ofBits .f32 0xFF800000#32) _ = _
  rw [bot_lit]; rfl

theorem rowSum_apply (x : V Ideal) (r : Fin 128) :
    rowSum x (cst₀ 0x00000000#32) (ix1 r) = 0 + ∑ c : Fin 100000, x (ix2 r c) := by
  show Ideal.hostReduceAdd reducesTo_S128x100000_S128_d1 x (Ideal.ofBits .f32 0x00000000#32) (ix1 r) = _
  rw [Ideal.hostReduceAdd_r2_a1, Ideal.ofBits_zero_f32]; rfl

theorem max_apply (x y : Vr Ideal) (j : S128.Idx) : (maximumf : Vr Ideal → Vr Ideal → Vr Ideal) x y j = max (x j) (y j) := rfl

theorem bcast_apply (b : BitVec 32) (j : S128.Idx) :
    broadcastInDim S128 ![] bcast_S_S128 (cst₀ b : V₀ Ideal) j = Ideal.ofBits .f32 b := rfl

theorem shiftOf_apply (x : V Ideal) (r : Fin 128) (c : Fin 100000) :
    shiftOf x (ix2 r c) = max ⊥ ((Finset.univ : Finset (Fin 100000)).fold max ⊥ fun c => x (ix2 r c)) := by
  rw [shiftOf, spreadR_apply, max_apply, bcast_apply, rowMax_apply, bot_lit]

theorem exp_apply (x s : V Ideal) (j : S128x100000.Idx) : expX (subX x s) j = Ideal.exp (x j - s j) := rfl
theorem div_apply (x s : V Ideal) (j : S128x100000.Idx) : divX x s j = Ideal.div (x j) (s j) := rfl

theorem softOf_apply (x s : V Ideal) (r : Fin 128) (c : Fin 100000) : softOf x s (ix2 r c)
    = Ideal.div (Ideal.exp (x (ix2 r c) - s (ix2 r c))) (0 + ∑ c : Fin 100000, Ideal.exp (x (ix2 r c) - s (ix2 r c))) := by
  rw [softOf, div_apply, spreadR_apply, rowSum_apply, exp_apply]
  simp only [exp_apply]

theorem two_lit : Ideal.ofBits .f32 0x40000000#32 = ((2 : ℝ) : EReal) := by
  simp [Ideal.ofBits, Ideal.ieee, -EReal.coe_mul]
  norm_num

theorem last_apply (h s : V Ideal) (j : S128x100000.Idx) : addX (subX h s) s j = h j - s j + s j := rfl

theorem col_apply (r : Fin 128) (c : Fin 100000) :
    broadcastInDim S128x100000 ![0, 1] bcast_S1x100000_S128x100000_0_1 (iotaInDim S1x100000 32 1) (ix2 r c) = BitVec.ofNat 32 c.val := rfl

theorem hot_cmp (a b : IVec S128x100000 32) (j : S128x100000.Idx) :
    (uitofp .f32 : IVec S128x100000 1 → V Ideal) (cmpi .eq a b) j = (((BitVec.ofBool (a j == b j)).toNat : ℝ) : EReal) := rfl

theorem hotOf_apply (a : IVec S128 32) (r : Fin 128) (k c : Fin 100000) (h : a (ix1 r) = BitVec.ofNat 32 k.val) :
    hotOf (F := Ideal) a (ix2 r c) = ((if c = k then (1 : ℝ) else 0 : ℝ) : EReal) := by
  rw [hotOf, hot_cmp, row_apply, col_apply, h]
  refine congrArg _ ?_
  by_cases e : c = k
  · rw [if_pos e, e, beq_self_eq_true]; simp
  · rw [if_neg e, beq_false_of_ne]
    · simp
    · intro h'
      have := congrArg BitVec.toNat h'
      rw [BitVec.toNat_ofNat, BitVec.toNat_ofNat, Nat.mod_eq_of_lt, Nat.mod_eq_of_lt] at this
      · exact e (Fin.ext this.symm)
      · have := c.isLt; omega
      · have := k.isLt; omega

variable (m : (ℓ : Loc nD τ sig) → Buf (Elt Ideal) ℓ) (d : Dev nD)

/-- The sum of argument and noise. -/
theorem z_eq (r : Fin 128) (c : Fin 100000) : rd (G m d) (.of main_v16 : X) (ix2 r c) = zrow (arg m d) r c := by
  rw [sum_eq, sumOf_apply, unif_eq, unifOf_apply, word_eq, Ideal.ofBits_zero_f32, Ideal.ofBits_one_f32, unif]
  rw [← tiny, gum_neg, ix2_0, ix2_1, zrow]

theorem half_z (r : Fin 128) (c : Fin 100000) :
    rd (G m d) (.of main_v18 : X) (ix2 r c) = Ideal.div (zrow (arg m d) r c) ((2 : ℝ) : EReal) := by
  rw [half_eq, halfOf_apply, z_eq, two_lit]

/-- The reference's result. -/
theorem result (r : Fin 128) (hlt : ∀ c, arg m d (ix2 r c) < ⊤) (hbot : ∃ c, ⊥ < arg m d (ix2 r c)) (k : Fin 100000)
    (hk : IsFirst (zrow (arg m d) r) k) (c : Fin 100000) :
    rd (G m d) (.of main_v33 : X) (ix2 r c) = if c = k then 1 else 0 := by
  obtain ⟨c₀, hc₀⟩ := hbot
  let y : Fin 100000 → EReal := fun c => rd (G m d) (.of main_v18 : X) (ix2 r c)
  have hy : ∀ i j, y i ≤ y j ↔ zrow (arg m d) r i ≤ zrow (arg m d) r j := fun i j => by
    show rd (G m d) (.of main_v18 : X) (ix2 r i) ≤ rd (G m d) (.of main_v18 : X) (ix2 r j) ↔ _
    rw [half_z, half_z, half_le]
  have hz : ∃ a : ℝ, ∀ c, y c ≤ (a : EReal) := by
    have h1 := zrow_lt_top (x := arg m d) (hlt k)
    have h2 : ⊥ < zrow (arg m d) r k := lt_of_lt_of_le (bot_lt_zrow hc₀) (hk.1 c₀)
    refine ⟨(zrow (arg m d) r k).toReal * (1 / 2), fun c => ?_⟩
    rw [EReal.coe_mul, EReal.coe_toReal h1.ne h2.ne', ← Ideal.div_coe (by norm_num : (2 : ℝ) ≠ 0), ← half_z]
    exact (hy c k).2 (hk.1 c)
  obtain ⟨a, ha⟩ := hz
  have hylt : ∀ c, y c < ⊤ := fun c => lt_of_le_of_lt (ha c) (EReal.coe_lt_top a)
  have hybot : ⊥ < y c₀ := by
    refine lt_of_le_of_ne bot_le fun h => ?_
    have h1 := zrow_lt_top (x := arg m d) (hlt c₀)
    have h2 := bot_lt_zrow hc₀
    have h3 : y c₀ = ((zrow (arg m d) r c₀).toReal * (1 / 2) : ℝ) := by
      show rd (G m d) (.of main_v18 : X) (ix2 r c₀) = _
      rw [half_z, Ideal.div_coe (by norm_num : (2 : ℝ) ≠ 0), EReal.coe_mul, EReal.coe_toReal h1.ne h2.ne']
    rw [h3] at h
    exact EReal.coe_ne_bot _ h.symm
  obtain ⟨M, hM⟩ : ∃ M : ℝ, max ⊥ ((Finset.univ : Finset (Fin 100000)).fold max ⊥ y) = (M : EReal) := by
    have h1 : ⊥ < max ⊥ ((Finset.univ : Finset (Fin 100000)).fold max ⊥ y) :=
      lt_of_lt_of_le hybot ((le_foldMax y c₀).trans (le_max_right _ _))
    have h2 : max ⊥ ((Finset.univ : Finset (Fin 100000)).fold max ⊥ y) < ⊤ :=
      max_lt bot_lt_top (foldMax_lt y bot_lt_top hylt)
    exact ⟨_, (EReal.coe_toReal h2.ne h1.ne').symm⟩
  obtain ⟨p, hp, hpo⟩ := soft y hylt c₀ hybot M
  have hs : ∀ c, rd (G m d) (.of main_v29 : X) (ix2 r c) = (p c : EReal) := fun c => by
    have hsh : ∀ c, rd (G m d) (.of main_v23 : X) (ix2 r c) = (M : EReal) := fun c => by
      rw [shift_eq, shiftOf_apply]; exact hM
    rw [soft_eq, softOf_apply, ← hp c]
    simp only [hsh]; rfl
  have hfirst : IsFirst (fun c => rd (G m d) (.of main_v29 : X) (ix2 r c)) k := by
    refine IsFirst.of_iff (fun i j => ?_) hk
    rw [hs, hs, EReal.coe_le_coe_iff, hpo, hy]
  have harg : rd (G m d) (.of main_v30 : TRef sig ⟨S128, .i32⟩) (ix1 r) = BitVec.ofNat 32 k.val := by
    rw [arg_eq]
    exact argmax_eq _ r k (by rw [hs]; exact EReal.bot_lt_coe _) hfirst
  rw [hot_eq, last_apply, hotOf_apply _ r k c harg, hs, sub_add_real _ _ ⟨_, rfl⟩]
  split <;> simp

end Cert.RefRun
-- ==== Proof.Algebraic.lean ====
/-
  The value claim: from one argument whose rows satisfy the precondition, the kernel and the reference leave the same
  array.
-/
module

public import proofs.«01_k».proof.Defs
public import proofs.«01_k».proof.Proof.KernValue
public import proofs.«01_k».proof.Proof.RefValue
public import proofs.«01_k».proof.Proof.PreRows
public import proofs.«01_k».proof.Proof.Gen.KernelIdeal
public import proofs.«01_k».proof.Proof.Gen.KernelIdeal.Value
public import proofs.«01_k».proof.Proof.Gen.ReferenceIdeal

@[expose] public section

set_option maxRecDepth 20000

noncomputable section

namespace Cert.Algebraic

open Idealize.ShloMosaic Idealize.ShloMosaic.StableHlo Idealize.SL.Sem Cert.First Cert.Noise Cert.Line

theorem hot_fin (k c : Fin 100000) : (if c = k then (1 : EReal) else 0) = KernOut.hot k.val c.val :=
  if_congr Fin.ext_iff rfl rfl

/-- The reference's array, as one function of its argument's array and of the first places of its rows. -/
theorem ref_eq (m : (ℓ : Loc ReferenceIdeal.nD ReferenceIdeal.τ ReferenceIdeal.sig) → Buf (Elt Ideal) ℓ)
    (d : Dev ReferenceIdeal.nD) (x : (⟨2, ![128, 100000]⟩ : Shape).Idx → EReal) (hx : RefRun.arg m d = x)
    (hlt : ∀ r c, x (ix2 r c) < ⊤) (hbot : ∀ r, ∃ c, ⊥ < x (ix2 r c)) (K : Fin 128 → Fin 100000)
    (hK : ∀ r, IsFirst (zrow x r) (K r)) :
    rd (RefRun.G m d) (.of ReferenceIdeal.main_v33 : TRef ReferenceIdeal.sig ⟨ReferenceIdeal.S128x100000, .f32⟩)
      = KernValue.result K := by
  subst hx
  funext y
  rw [eq_ix2 y]
  refine (RefRun.result m d (y 0) (hlt (y 0)) (hbot (y 0)) (K (y 0)) (hK (y 0)) (y 1)).trans ?_
  exact hot_fin (K (y 0)) (y 1)

/-- The first places of the rows, when every row's greatest logit is finite. -/
theorem first (x : (⟨2, ![128, 100000]⟩ : Shape).Idx → EReal) (hbot : ∀ r, ∃ c, ⊥ < x (ix2 r c)) :
    ∃ K : Fin 128 → Fin 100000, (∀ r, IsFirst (zrow x r) (K r)) ∧ ∀ r, ⊥ < zrow x r (K r) := by
  choose K hK using fun r => exists_first (zrow x r)
  refine ⟨K, hK, fun r => ?_⟩
  obtain ⟨c, hc⟩ := hbot r
  exact lt_of_lt_of_le (bot_lt_zrow hc) ((hK r).1 c)

theorem algebraic : algebraic_KernelIdeal_ReferenceIdeal_pre_finite_rows (hKernelIdeal := KernelIdeal.Gen.facts)
    (hReferenceIdeal := ReferenceIdeal.Gen.facts) (hPre_finite_rows := PreRows.facts) := by
  intro m g m' g' hpre hagree
  haveI := PreRows.facts
  refine ⟨fun c => (KernelIdeal.Gen.dats m 0 c).arrAt 1 KernelIdeal.cfg0.N, KernelIdeal.Value.run_blocks m g, ?_⟩
  refine (θ_run ReferenceIdeal.defs _ _).mono (fun r h c => ?_) (RefRun.run m' g')
  have harg : r.2.mem ((c.tc : Thread ReferenceIdeal.nD ReferenceIdeal.τ).loc ReferenceIdeal.main_arg0)
      = m' ((c.tc : Thread ReferenceIdeal.nD ReferenceIdeal.τ).loc ReferenceIdeal.main_arg0) :=
    (h c ReferenceIdeal.main_arg0).trans (RefRun.G_arg0 m' c)
  refine ⟨?_, harg⟩
  have hrows := PreRows.rows (KernValue.input m c) (hpre c)
  have hx : RefRun.arg m' c = KernValue.input m c := (RefRun.G_arg0 m' c).trans (hagree c)
  obtain ⟨K, hK, hb⟩ := first (KernValue.input m c) fun r => (hrows r).2
  refine Eq.trans ?_ (KernValue.arr_eq m c K hK hb).symm
  exact (h c ReferenceIdeal.main_v33).trans (ref_eq m' c _ hx (fun r => (hrows r).1) (fun r => (hrows r).2) K hK)

end Cert.Algebraic

end
-- ==== Proof.lean ====
/-
  The proof of `Cert.Claim`: the frames of the three programs, that idealizing the kernel changes no operation, and that
  the kernel computes the reference's array.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.PreRows
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.PreRows.facts,
    fun m ρ _ => Cert.Kernel.Gen.frame m ρ,
    fun m ρ _ => Cert.KernelIdeal.Gen.frame m ρ, fun m ρ _ => Cert.KernelIdeal.Gen.frame m ρ,
    fun m ρ _ => Cert.RefRun.frame m ρ, fun m ρ _ => Cert.RefRun.frame m ρ,
    trivial, Cert.Algebraic.algebraic⟩

end Cert.Proof

end
